-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 1024]⟩ ⟨2, ![512, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1024 : Shape := ⟨2, ![512, 1024]⟩
abbrev S1024x512 : Shape := ⟨2, ![1024, 512]⟩
abbrev S7x64x512 : Shape := ⟨3, ![7, 64, 512]⟩
abbrev S3x64x512 : Shape := ⟨3, ![3, 64, 512]⟩
abbrev S7 : Shape := ⟨1, ![7]⟩
abbrev S3 : Shape := ⟨1, ![3]⟩
abbrev S_ : Shape := ⟨0, ![]⟩
abbrev S1 : Shape := ⟨1, ![1]⟩
abbrev S1x64x512 : Shape := ⟨3, ![1, 64, 512]⟩
abbrev S64x512 : Shape := ⟨2, ![64, 512]⟩

abbrev nBuf : Space → Nat
  | .hbm => 5
  | .vmem => 8
  | .smem => 0
  | _ => 0

abbrev bufTy : (tb : Table) → Fin (tcTables nBuf tb) → BufTy
  | .hbm, ⟨0, _⟩ => ⟨S512x512, .f32⟩
  | .hbm, ⟨1, _⟩ => ⟨S512x1024, .f32⟩
  | .hbm, ⟨2, _⟩ => ⟨S512x1024, .f32⟩
  | .hbm, ⟨3, _⟩ => ⟨S1024x512, .f32⟩
  | .hbm, ⟨4, _⟩ => ⟨S512x512, .f32⟩
  | .local _ .vmem, ⟨0, _⟩ => ⟨S512x512, .f32⟩
  | .local _ .vmem, ⟨1, _⟩ => ⟨S512x1024, .f32⟩
  | .local _ .vmem, ⟨2, _⟩ => ⟨S512x1024, .f32⟩
  | .local _ .vmem, ⟨3, _⟩ => ⟨S1024x512, .f32⟩
  | .local _ .vmem, ⟨4, _⟩ => ⟨S512x512, .f32⟩
  | .local _ .vmem, ⟨5, _⟩ => ⟨S512x512, .bf16⟩
  | .local _ .vmem, ⟨6, _⟩ => ⟨S7x64x512, .bf16⟩
  | .local _ .vmem, ⟨7, _⟩ => ⟨S3x64x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v16 : BitVec 32 := Scalar.xori v2 c9_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v19 : BitVec 32 := Scalar.xori v2 c10_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v22 : BitVec 32 := Scalar.xori v2 c11_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v25 : BitVec 32 := Scalar.xori v2 c4_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v28 : BitVec 32 := Scalar.xori v2 c16_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v31 : BitVec 32 := Scalar.xori v2 c20_i32
  let c1_i32_28 : BitVec 32 := 1#32
  let v32 : BitVec 32 := Scalar.muli v31 c1_i32_28
  let v33 : BitVec 32 := Scalar.addi c0_i32_29 v32
  v33.toNat
def k0_off1 (d0 : Dev nD) (c1_i32_50 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v57 : BitVec 32 := Scalar.shrsi v2 c0_i32_42
  let c1_i32_43 : BitVec 32 := 1#32
  let v58 : BitVec 32 := Scalar.andi v57 c1_i32_43
  let c1_i32_44 : BitVec 32 := 1#32
  let v59 : BitVec 32 := Scalar.shrsi v2 c1_i32_44
  let c1_i32_45 : BitVec 32 := 1#32
  let v60 : BitVec 32 := Scalar.andi v59 c1_i32_45
  let c1_i32_46 : BitVec 32 := 1#32
  let v61 : BitVec 32 := Scalar.shli v60 c1_i32_46
  let v62 : BitVec 32 := Scalar.ori v58 v61
  let c3_i32_47 : BitVec 32 := 3#32
  let v63 : BitVec 32 := Scalar.shrsi v2 c3_i32_47
  let c1_i32_48 : BitVec 32 := 1#32
  let v64 : BitVec 32 := Scalar.andi v63 c1_i32_48
  let c2_i32_49 : BitVec 32 := 2#32
  let v65 : BitVec 32 := Scalar.shli v64 c2_i32_49
  let v66 : BitVec 32 := Scalar.ori v62 v65
  let v68 : BitVec 32 := Scalar.xori v66 c1_i32_50
  let c64_i32_51 : BitVec 32 := 64#32
  let v69 : BitVec 32 := Scalar.muli v68 c64_i32_51
  let c0_i32_60 : BitVec 32 := 0#32
  ![v69.toNat, 0]
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_52 : BitVec 32 := 1#32
  let v70 : BitVec 32 := Scalar.xori v2 c1_i32_52
  let c1_i32_56 : BitVec 32 := 1#32
  let v71 : BitVec 32 := Scalar.muli v70 c1_i32_56
  let v72 : BitVec 32 := Scalar.addi c0_i32_57 v71
  v72.toNat
def k0_dev12 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_63 : BitVec 32 := 2#32
  let v82 : BitVec 32 := Scalar.xori v2 c2_i32_63
  let c1_i32_67 : BitVec 32 := 1#32
  let v83 : BitVec 32 := Scalar.muli v82 c1_i32_67
  let v84 : BitVec 32 := Scalar.addi c0_i32_68 v83
  v84.toNat
def k0_dev13 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_74 : BitVec 32 := 3#32
  let v94 : BitVec 32 := Scalar.xori v2 c3_i32_74
  let c1_i32_78 : BitVec 32 := 1#32
  let v95 : BitVec 32 := Scalar.muli v94 c1_i32_78
  let v96 : BitVec 32 := Scalar.addi c0_i32_79 v95
  v96.toNat
def k0_dev14 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_85 : BitVec 32 := 8#32
  let v106 : BitVec 32 := Scalar.xori v2 c8_i32_85
  let c1_i32_89 : BitVec 32 := 1#32
  let v107 : BitVec 32 := Scalar.muli v106 c1_i32_89
  let v108 : BitVec 32 := Scalar.addi c0_i32_90 v107
  v108.toNat
def k0_dev15 (d0 : Dev nD) : Nat :=
  let c0_i32_100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_95 : BitVec 32 := 9#32
  let v118 : BitVec 32 := Scalar.xori v2 c9_i32_95
  let c1_i32_99 : BitVec 32 := 1#32
  let v119 : BitVec 32 := Scalar.muli v118 c1_i32_99
  let v120 : BitVec 32 := Scalar.addi c0_i32_100 v119
  v120.toNat
def k0_dev16 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_105 : BitVec 32 := 10#32
  let v130 : BitVec 32 := Scalar.xori v2 c10_i32_105
  let c1_i32_109 : BitVec 32 := 1#32
  let v131 : BitVec 32 := Scalar.muli v130 c1_i32_109
  let v132 : BitVec 32 := Scalar.addi c0_i32_110 v131
  v132.toNat
def k0_dev17 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_115 : BitVec 32 := 11#32
  let v142 : BitVec 32 := Scalar.xori v2 c11_i32_115
  let c1_i32_119 : BitVec 32 := 1#32
  let v143 : BitVec 32 := Scalar.muli v142 c1_i32_119
  let v144 : BitVec 32 := Scalar.addi c0_i32_120 v143
  v144.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v57 : BitVec 32 := Scalar.shrsi v2 c0_i32_42
  let c1_i32_43 : BitVec 32 := 1#32
  let v58 : BitVec 32 := Scalar.andi v57 c1_i32_43
  let c1_i32_44 : BitVec 32 := 1#32
  let v59 : BitVec 32 := Scalar.shrsi v2 c1_i32_44
  let c1_i32_45 : BitVec 32 := 1#32
  let v60 : BitVec 32 := Scalar.andi v59 c1_i32_45
  let c1_i32_46 : BitVec 32 := 1#32
  let v61 : BitVec 32 := Scalar.shli v60 c1_i32_46
  let v62 : BitVec 32 := Scalar.ori v58 v61
  let c3_i32_47 : BitVec 32 := 3#32
  let v63 : BitVec 32 := Scalar.shrsi v2 c3_i32_47
  let c1_i32_48 : BitVec 32 := 1#32
  let v64 : BitVec 32 := Scalar.andi v63 c1_i32_48
  let c2_i32_49 : BitVec 32 := 2#32
  let v65 : BitVec 32 := Scalar.shli v64 c2_i32_49
  let v66 : BitVec 32 := Scalar.ori v62 v65
  let c64_i32 : BitVec 32 := 64#32
  let v67 : BitVec 32 := Scalar.muli v66 c64_i32
  let v236 : Index := Scalar.indexCast v67
  let c0_229 : Index := 0#32
  ![v236.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_42 : BitVec 32 := 0#32
  let v57 : BitVec 32 := Scalar.shrsi v2 c0_i32_42
  let c1_i32_43 : BitVec 32 := 1#32
  let v58 : BitVec 32 := Scalar.andi v57 c1_i32_43
  let c1_i32_44 : BitVec 32 := 1#32
  let v59 : BitVec 32 := Scalar.shrsi v2 c1_i32_44
  let c1_i32_45 : BitVec 32 := 1#32
  let v60 : BitVec 32 := Scalar.andi v59 c1_i32_45
  let c1_i32_46 : BitVec 32 := 1#32
  let v61 : BitVec 32 := Scalar.shli v60 c1_i32_46
  let v62 : BitVec 32 := Scalar.ori v58 v61
  let c3_i32_47 : BitVec 32 := 3#32
  let v63 : BitVec 32 := Scalar.shrsi v2 c3_i32_47
  let c1_i32_48 : BitVec 32 := 1#32
  let v64 : BitVec 32 := Scalar.andi v63 c1_i32_48
  let c2_i32_49 : BitVec 32 := 2#32
  let v65 : BitVec 32 := Scalar.shli v64 c2_i32_49
  let v66 : BitVec 32 := Scalar.ori v62 v65
  let c64_i32 : BitVec 32 := 64#32
  let v67 : BitVec 32 := Scalar.muli v66 c64_i32
  let c0_i32_254 : BitVec 32 := 0#32
  ![v67.toNat, 0]
def k0_dev18 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_246 : BitVec 32 := 4#32
  let v272 : BitVec 32 := Scalar.xori v2 c4_i32_246
  let c1_i32_250 : BitVec 32 := 1#32
  let v273 : BitVec 32 := Scalar.muli v272 c1_i32_250
  let v274 : BitVec 32 := Scalar.addi c0_i32_251 v273
  v274.toNat
def k0_dev19 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_255 : BitVec 32 := 16#32
  let v282 : BitVec 32 := Scalar.xori v2 c16_i32_255
  let c1_i32_259 : BitVec 32 := 1#32
  let v283 : BitVec 32 := Scalar.muli v282 c1_i32_259
  let v284 : BitVec 32 := Scalar.addi c0_i32_260 v283
  v284.toNat
def k0_dev20 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_264 : BitVec 32 := 20#32
  let v292 : BitVec 32 := Scalar.xori v2 c20_i32_264
  let c1_i32_268 : BitVec 32 := 1#32
  let v293 : BitVec 32 := Scalar.muli v292 c1_i32_268
  let v294 : BitVec 32 := Scalar.addi c0_i32_269 v293
  v294.toNat
def k0_dev21 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_329 : BitVec 32 := 1#32
  let v358 : BitVec 32 := Scalar.xori v2 c1_i32_329
  let c1_i32_332 : BitVec 32 := 1#32
  let v359 : BitVec 32 := Scalar.muli v358 c1_i32_332
  let v360 : BitVec 32 := Scalar.addi c0_i32_333 v359
  v360.toNat
def k0_dev22 (d0 : Dev nD) : Nat :=
  let c0_i32_340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_336 : BitVec 32 := 2#32
  let v367 : BitVec 32 := Scalar.xori v2 c2_i32_336
  let c1_i32_339 : BitVec 32 := 1#32
  let v368 : BitVec 32 := Scalar.muli v367 c1_i32_339
  let v369 : BitVec 32 := Scalar.addi c0_i32_340 v368
  v369.toNat
def k0_dev23 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_343 : BitVec 32 := 3#32
  let v376 : BitVec 32 := Scalar.xori v2 c3_i32_343
  let c1_i32_346 : BitVec 32 := 1#32
  let v377 : BitVec 32 := Scalar.muli v376 c1_i32_346
  let v378 : BitVec 32 := Scalar.addi c0_i32_347 v377
  v378.toNat
def k0_dev24 (d0 : Dev nD) : Nat :=
  let c0_i32_354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_350 : BitVec 32 := 8#32
  let v385 : BitVec 32 := Scalar.xori v2 c8_i32_350
  let c1_i32_353 : BitVec 32 := 1#32
  let v386 : BitVec 32 := Scalar.muli v385 c1_i32_353
  let v387 : BitVec 32 := Scalar.addi c0_i32_354 v386
  v387.toNat
def k0_dev25 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_357 : BitVec 32 := 9#32
  let v394 : BitVec 32 := Scalar.xori v2 c9_i32_357
  let c1_i32_360 : BitVec 32 := 1#32
  let v395 : BitVec 32 := Scalar.muli v394 c1_i32_360
  let v396 : BitVec 32 := Scalar.addi c0_i32_361 v395
  v396.toNat
def k0_dev26 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_364 : BitVec 32 := 10#32
  let v403 : BitVec 32 := Scalar.xori v2 c10_i32_364
  let c1_i32_367 : BitVec 32 := 1#32
  let v404 : BitVec 32 := Scalar.muli v403 c1_i32_367
  let v405 : BitVec 32 := Scalar.addi c0_i32_368 v404
  v405.toNat
def k0_dev27 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_371 : BitVec 32 := 11#32
  let v412 : BitVec 32 := Scalar.xori v2 c11_i32_371
  let c1_i32_374 : BitVec 32 := 1#32
  let v413 : BitVec 32 := Scalar.muli v412 c1_i32_374
  let v414 : BitVec 32 := Scalar.addi c0_i32_375 v413
  v414.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x32768 : Shape := ⟨2, ![512, 32768]⟩
abbrev S32768x512 : Shape := ⟨2, ![32768, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x32768, .f32⟩
  | .hbm, ⟨2, _⟩ => ⟨S512x32768, .f32⟩
  | .hbm, ⟨3, _⟩ => ⟨S32768x512, .f32⟩
  | .hbm, ⟨4, _⟩ => ⟨S512x32768, .f32⟩
  | .hbm, ⟨5, _⟩ => ⟨S512x32768, .f32⟩
  | .hbm, ⟨6, _⟩ => ⟨S512x32768, .f32⟩
  | .hbm, ⟨7, _⟩ => ⟨S512x32768, .f32⟩
  | .hbm, ⟨8, _⟩ => ⟨S_, .f32⟩
  | .hbm, ⟨9, _⟩ => ⟨S512x32768, .f32⟩
  | .hbm, ⟨10, _⟩ => ⟨S512x32768, .f32⟩
  | .hbm, ⟨11, _⟩ => ⟨S512x32768, .f32⟩
  | .hbm, ⟨12, _⟩ => ⟨S512x32768, .f32⟩
  | .hbm, ⟨13, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Mesh.lean ====
/-
# `Mesh`: the partners of a device, the row segment it is responsible for, and the printed device and offset arithmetic

Devices are numbered 0..31. Device `c` exchanges with the seven devices `pA d c` (its A-group, the numbers that differ
from `c` in bits 0, 1 and 3) and the three devices `pB e c` (its B-group, bits 2 and 4). Within an A-group device `c` is
responsible for the 64 rows of segment `qa c`. Everything here is finite and decided.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.StableHlo.CollectiveRules
public import Idealize.ShloMosaic.Lib.Tactic

@[expose] public section

noncomputable section

namespace Cert.GatedMlp

open Cert.KernelIdeal Cert.KernelIdeal.Gen
open Idealize.ShloMosaic
open Idealize.ShloMosaic.TcCoe

/-- The bit pattern by which the `d`-th A-partner differs. -/
def maskA : Fin 7 → ℕ := ![1, 2, 3, 8, 9, 10, 11]
/-- The bit pattern by which the `e`-th B-partner differs. -/
def maskB : Fin 3 → ℕ := ![4, 16, 20]

set_option backward.proofsInPublic true in
/-- The `d`-th partner of `c` in its A-group. -/
def pA (d : Fin 7) (c : Dev nD) : Dev nD := ⟨(c.val ^^^ maskA d) % 32, Nat.mod_lt _ (by decide)⟩
set_option backward.proofsInPublic true in
/-- The `e`-th partner of `c` in its B-group. -/
def pB (e : Fin 3) (c : Dev nD) : Dev nD := ⟨(c.val ^^^ maskB e) % 32, Nat.mod_lt _ (by decide)⟩
set_option backward.proofsInPublic true in
/-- The segment `c` is responsible for: its place in the A-group. -/
def qa (c : Dev nD) : Fin 8 := ⟨(c.val % 2 + 2 * (c.val / 2 % 2) + 4 * (c.val / 8 % 2)) % 8, Nat.mod_lt _ (by decide)⟩
set_option backward.proofsInPublic true in
/-- The segment the `d`-th A-partner of the device of segment `s` is responsible for. -/
def qx (d : Fin 7) (s : Fin 8) : Fin 8 := ⟨(s.val ^^^ (d.val + 1)) % 8, Nat.mod_lt _ (by decide)⟩
set_option backward.proofsInPublic true in
/-- The device of `c`'s A-group that is responsible for segment `s`. -/
def own (c : Dev nD) (s : Fin 8) : Dev nD :=
  ⟨(s.val % 4 + 8 * (s.val / 4) + 4 * (c.val / 4 % 2) + 16 * (c.val / 16)) % 32, Nat.mod_lt _ (by decide)⟩

theorem pA_pA (d : Fin 7) (c : Dev nD) : pA d (pA d c) = c := by revert d c; decide +kernel
theorem pB_pB (e : Fin 3) (c : Dev nD) : pB e (pB e c) = c := by revert e c; decide +kernel
theorem qa_pA (d : Fin 7) (c : Dev nD) : qa (pA d c) = qx d (qa c) := by revert d c; decide +kernel
theorem qa_pB (e : Fin 3) (c : Dev nD) : qa (pB e c) = qa c := by revert e c; decide +kernel
theorem qx_qx (d : Fin 7) (s : Fin 8) : qx d (qx d s) = s := by revert d s; decide +kernel
theorem qx_ne (d : Fin 7) (s : Fin 8) : qx d s ≠ s := by revert d s; decide +kernel
theorem qx_inj (s : Fin 8) : Function.Injective fun d => qx d s := by revert s; decide +kernel
theorem qx_surj (s t : Fin 8) (h : t ≠ s) : ∃ d, qx d s = t := by revert s t; decide +kernel
theorem own_qa (c : Dev nD) : own c (qa c) = c := by revert c; decide +kernel
theorem own_qx (d : Fin 7) (c : Dev nD) : own c (qx d (qa c)) = pA d c := by revert d c; decide +kernel

/-- Segments are the own one and the seven of the A-partners. -/
theorem univ_segs (s : Fin 8) :
    (Finset.univ : Finset (Fin 8)) = insert s (Finset.univ.map ⟨fun d => qx d s, qx_inj s⟩) := by
  revert s; decide +kernel

/-! ### The printed device numbers -/

theorem devA0 : (∀ c : Dev nD, k0_dev1 c = (pA 0 c).val) ∧ (∀ c : Dev nD, k0_dev2 c = (pA 1 c).val) ∧ (∀ c : Dev nD, k0_dev3 c = (pA 2 c).val)
    ∧ (∀ c : Dev nD, k0_dev4 c = (pA 3 c).val) ∧ (∀ c : Dev nD, k0_dev5 c = (pA 4 c).val) ∧ (∀ c : Dev nD, k0_dev6 c = (pA 5 c).val)
    ∧ (∀ c : Dev nD, k0_dev7 c = (pA 6 c).val) := by decide +kernel
theorem devB0 : (∀ c : Dev nD, k0_dev8 c = (pB 0 c).val) ∧ (∀ c : Dev nD, k0_dev9 c = (pB 1 c).val) ∧ (∀ c : Dev nD, k0_dev10 c = (pB 2 c).val) := by
  decide +kernel
theorem devA1 : (∀ c : Dev nD, k0_dev11 c = (pA 0 c).val) ∧ (∀ c : Dev nD, k0_dev12 c = (pA 1 c).val) ∧ (∀ c : Dev nD, k0_dev13 c = (pA 2 c).val)
    ∧ (∀ c : Dev nD, k0_dev14 c = (pA 3 c).val) ∧ (∀ c : Dev nD, k0_dev15 c = (pA 4 c).val) ∧ (∀ c : Dev nD, k0_dev16 c = (pA 5 c).val)
    ∧ (∀ c : Dev nD, k0_dev17 c = (pA 6 c).val) := by decide +kernel
theorem devB1 : (∀ c : Dev nD, k0_dev18 c = (pB 0 c).val) ∧ (∀ c : Dev nD, k0_dev19 c = (pB 1 c).val) ∧ (∀ c : Dev nD, k0_dev20 c = (pB 2 c).val) := by
  decide +kernel
theorem devA2 : (∀ c : Dev nD, k0_dev21 c = (pA 0 c).val) ∧ (∀ c : Dev nD, k0_dev22 c = (pA 1 c).val) ∧ (∀ c : Dev nD, k0_dev23 c = (pA 2 c).val)
    ∧ (∀ c : Dev nD, k0_dev24 c = (pA 3 c).val) ∧ (∀ c : Dev nD, k0_dev25 c = (pA 4 c).val) ∧ (∀ c : Dev nD, k0_dev26 c = (pA 5 c).val)
    ∧ (∀ c : Dev nD, k0_dev27 c = (pA 6 c).val) := by decide +kernel

/-! ### The printed row offsets -/

theorem off1_eq : ∀ (c : Dev nD) (d : Fin 7), k0_off1 c (BitVec.ofNat 32 (1 + d.val)) = ![64 * (qx d (qa c)).val, 0] := by decide +kernel
theorem off2_eq : ∀ c : Dev nD, k0_off2 c = ![64 * (qa c).val, 0] := by decide +kernel
theorem off3_eq : ∀ c : Dev nD, k0_off3 c = ![64 * (qa c).val, 0] := by decide +kernel

end Cert.GatedMlp

end
-- ==== Proof.Cells.lean ====
/-
# `Cells`: the semaphores and buffers of the exchange, and what each transfer carries

A device takes part in the exchange through 35 semaphores (`Slot`): its barrier semaphore and, for each transfer it
issues, one that says the transfer has left (`rs`, `xs`, `as`) and, for each transfer it receives, one that says it has
landed (`rr`, `xr`, `ar`). The bf16 buffer `commM` is seen as eight segments of 64 rows (`seg`), the two landing buffers
as seven and three slots (`slA`, `slB`). Given every device's partial product `P`, the functions `asum`, `bsum` and `fin`
say what the three phases compute.
-/
module

public import proofs.«01_k».proof.Proof.Mesh
public import Idealize.ShloMosaic.Lib.ValueIdxCore

@[expose] public section

noncomputable section

namespace Cert.GatedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The names of a cell's duties: the barrier's by the partner that pays them, every other cell's one duty `inl 0`. -/
abbrev Duty : Type := Fin 7 ⊕ Fin 3
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The semaphores of the transfers. -/
abbrev OSlot : Type := Fin 7 ⊕ Fin 7 ⊕ Fin 3 ⊕ Fin 3 ⊕ Fin 7 ⊕ Fin 7
/-- Those and the barrier semaphore. -/
abbrev Slot : Type := Unit ⊕ OSlot

@[match_pattern] abbrev Slot.bar : Slot := .inl ()
@[match_pattern] abbrev Slot.rs (d : Fin 7) : Slot := .inr (.inl d)
@[match_pattern] abbrev Slot.rr (d : Fin 7) : Slot := .inr (.inr (.inl d))
@[match_pattern] abbrev Slot.xs (e : Fin 3) : Slot := .inr (.inr (.inr (.inl e)))
@[match_pattern] abbrev Slot.xr (e : Fin 3) : Slot := .inr (.inr (.inr (.inr (.inl e))))
@[match_pattern] abbrev Slot.as (d : Fin 7) : Slot := .inr (.inr (.inr (.inr (.inr (.inl d)))))
@[match_pattern] abbrev Slot.ar (d : Fin 7) : Slot := .inr (.inr (.inr (.inr (.inr (.inr d)))))

/-- The barrier semaphore of collective id 0. -/
abbrev barS : Sem sig := (SemArray.scalar (sig.barrier 0 rfl) : Sems sig S_).sem

set_option backward.proofsInPublic true in
def dsem (n k : ℕ) (d : Fin k) (h : n + k ≤ 39) : DmaSem sig := ⟨n + d.val, Nat.lt_of_lt_of_le (Nat.add_lt_add_left d.isLt n) h⟩

/-- The semaphore of a transfer's slot. -/
def osem : OSlot → SemLoc sig
  | .inl d => .dma (dsem 5 7 d (by decide))
  | .inr (.inl d) => .dma (dsem 12 7 d (by decide))
  | .inr (.inr (.inl e)) => .dma (dsem 19 3 e (by decide))
  | .inr (.inr (.inr (.inl e))) => .dma (dsem 22 3 e (by decide))
  | .inr (.inr (.inr (.inr (.inl d)))) => .dma (dsem 25 7 d (by decide))
  | .inr (.inr (.inr (.inr (.inr d)))) => .dma (dsem 32 7 d (by decide))

/-- The semaphore of a slot. -/
def csem : Slot → SemLoc sig
  | .inl _ => .reg barS
  | .inr k => osem k

theorem osem_inj : Function.Injective osem := by decide +kernel
theorem csem_inj : Function.Injective csem := by
  rintro (a | a) (b | b) h
  · rfl
  · exact absurd h (by revert a b; decide +kernel)
  · exact absurd h (by revert a b; decide +kernel)
  · exact congrArg Sum.inr (osem_inj h)

/-- The slot of a semaphore, if it has one. -/
def slotOf (s : SemLoc sig) : Option Slot := if h : ∃ k, csem k = s then some h.choose else none
theorem slotOf_csem (k : Slot) : slotOf (csem k) = some k := by
  have h : ∃ k', csem k' = csem k := ⟨k, rfl⟩
  unfold slotOf; rw [dif_pos h]; exact congrArg some (csem_inj h.choose_spec)

/-- Device `c`'s cell of slot `k`. -/
abbrev cell (c : Dev nD) (k : Slot) : GSem nD τ sig := ((c : Thread nD τ), csem k)
abbrev kcell (ck : Dev nD × Slot) : GSem nD τ sig := cell ck.1 ck.2

theorem cell_inj {c c' : Dev nD} {k k' : Slot} (h : cell c k = cell c' k') : c = c' ∧ k = k' :=
  ⟨Fin.ext (congrArg (fun g : GSem nD τ sig => g.1.1.val) h), csem_inj (congrArg Prod.snd h)⟩
theorem cell_eq_iff {c c' : Dev nD} {k k' : Slot} : Iff (cell c k = cell c' k') (c = c' ∧ k = k') :=
  ⟨cell_inj, fun ⟨h, h'⟩ => by rw [h, h']⟩
theorem kcell_injective : Function.Injective kcell := fun _ _ h => Prod.ext (cell_inj h).1 (cell_inj h).2

/-! ## The buffers -/

abbrev xM : Memref sig .tc .vmem S512x512 .f32 := Memref.whole cc0_stg0_0
abbrev wgM : Memref sig .tc .vmem S512x1024 .f32 := Memref.whole cc0_stg1_0
abbrev wuM : Memref sig .tc .vmem S512x1024 .f32 := Memref.whole cc0_stg2_0
abbrev wdM : Memref sig .tc .vmem S1024x512 .f32 := Memref.whole cc0_stg3_0
abbrev outM : Memref sig .tc .vmem S512x512 .f32 := Memref.whole cc0_stg4_0
abbrev commM : Memref sig .tc .vmem S512x512 .bf16 := Memref.whole cc0_scratch0
abbrev rAM : Memref sig .tc .vmem S7x64x512 .bf16 := Memref.whole cc0_scratch1
abbrev rBM : Memref sig .tc .vmem S3x64x512 .bf16 := Memref.whole cc0_scratch2

theorem inbSeg : ∀ s : Fin 8, ∀ a, (![64 * s.val, 0] : Fin 2 → ℕ) a + S64x512.size a ≤ S512x512.size a := by decide +kernel
theorem inbA : ∀ d : Fin 7, ∀ a, (![d.val, 0, 0] : Fin 3 → ℕ) a + S1x64x512.size a ≤ S7x64x512.size a := by decide +kernel
theorem inbB : ∀ e : Fin 3, ∀ a, (![e.val, 0, 0] : Fin 3 → ℕ) a + S1x64x512.size a ≤ S3x64x512.size a := by decide +kernel

/-- The rows of segment `s`. -/
abbrev segR (s : Fin 8) : Rect S512x512 := Rect.unit (s := S512x512) ![64 * s.val, 0] S64x512.size (inbSeg s)
abbrev rectA (d : Fin 7) : Rect S7x64x512 := Rect.unit (s := S7x64x512) ![d.val, 0, 0] S1x64x512.size (inbA d)
abbrev rectB (e : Fin 3) : Rect S3x64x512 := Rect.unit (s := S3x64x512) ![e.val, 0, 0] S1x64x512.size (inbB e)

/-- Segment `s` of the bf16 buffer. -/
def seg (s : Fin 8) : Memref sig .tc .vmem S64x512 .bf16 := commM.slice (segR s) (fun _ => rfl)
def slA' (d : Fin 7) : Memref sig .tc .vmem S1x64x512 .bf16 := rAM.slice (rectA d) (fun _ => rfl)
def slB' (e : Fin 3) : Memref sig .tc .vmem S1x64x512 .bf16 := rBM.slice (rectB e) (fun _ => rfl)
/-- Slot `d` of the first landing buffer. -/
def slA (d : Fin 7) : Memref sig .tc .vmem S64x512 .bf16 := (slA' d).squeeze S64x512 squeezes_S1x64x512_S64x512
/-- Slot `e` of the second landing buffer. -/
def slB (e : Fin 3) : Memref sig .tc .vmem S64x512 .bf16 := (slB' e).squeeze S64x512 squeezes_S1x64x512_S64x512

/-- A segment printed at an offset that comes to `64 s`. -/
theorem seg_of_off {off : Fin 2 → ℕ} {s : Fin 8} (hoff : off = ![64 * s.val, 0]) (inb : ∀ a, off a + S64x512.size a ≤ S512x512.size a) :
    commM.slice (Rect.unit (s := S512x512) off S64x512.size inb) (fun _ => rfl) = seg s := by subst hoff; rfl

/-- The credit of one transfer: every transfer carries 64 rows of 512 bf16 values. -/
abbrev N : ℕ := (seg 0).view.dmaCredit
theorem N_pos : 0 < N := View.dmaCredit_pos _ (by decide)
theorem N_seg (s : Fin 8) : (seg s).view.dmaCredit = N := rfl
theorem N_slA (d : Fin 7) : (slA d).view.dmaCredit = N := rfl
theorem N_slB (e : Fin 3) : (slB e).view.dmaCredit = N := rfl

/-! ## Contents -/

/-- 64 rows seen with a leading axis of size one. -/
def lift (X : Vec F S64x512 .bf16) : Vec F S1x64x512 .bf16 :=
  fun i => X (Shape.reshapeEquiv squeezes_S1x64x512_S64x512.numel_eq.symm i)

variable (P : Dev nD → Vec F S512x512 .bf16)

/-- Segment `s` of device `c`'s partial product. -/
def pseg (c : Dev nD) (s : Fin 8) : Vec F S64x512 .bf16 := fun j => P c ((segR s).emb j)

/-- Device `c`'s segment summed over its A-group: its own partial and the seven it receives, rounded to bf16. -/
def asum (c : Dev nD) : Vec F S64x512 .bf16 :=
  k0_pay5 (k0_pay4 (pseg P c (qa c)) (lift (pseg P (pA 0 c) (qa c))) (lift (pseg P (pA 1 c) (qa c))))
    (lift (pseg P (pA 2 c) (qa c))) (lift (pseg P (pA 3 c) (qa c))) (lift (pseg P (pA 4 c) (qa c)))
    (lift (pseg P (pA 5 c) (qa c))) (lift (pseg P (pA 6 c) (qa c)))

/-- That summed over its B-group: the sum over all devices. -/
def bsum (c : Dev nD) : Vec F S64x512 .bf16 :=
  k0_pay6 (asum P c) (lift (asum P (pB 0 c))) (lift (asum P (pB 1 c))) (lift (asum P (pB 2 c)))

set_option backward.proofsInPublic true in
/-- The segment of a row. -/
def segOf (i : S512x512.Idx) : Fin 8 := ⟨(i 0).val / 64, by have : (i 0).val < 512 := (i 0).isLt; omega⟩
set_option backward.proofsInPublic true in
/-- A row's place in its segment. -/
def inSeg (i : S512x512.Idx) : S64x512.Idx := ValueIdx.ix2 (n0 := 64) (n1 := 512) ⟨(i 0).val % 64, Nat.mod_lt _ (by decide)⟩ ⟨(i 1).val, (i 1).isLt⟩

/-- What device `c`'s bf16 buffer holds at the end: every segment from the device of its A-group responsible for it. -/
def fin (c : Dev nD) : Vec F S512x512 .bf16 := fun i => bsum P (own c (segOf i)) (inSeg i)

omit [FloatOps F] in
theorem segOf_emb (s : Fin 8) (j : (segR s).shape.Idx) : segOf ((segR s).emb j) = s := by
  have h : (j 0).val < 64 := (j 0).isLt
  refine Fin.ext ?_
  show (64 * s.val + 1 * (j 0).val) / 64 = s.val
  omega
omit [FloatOps F] in
theorem inSeg_emb (s : Fin 8) (j : (segR s).shape.Idx) : inSeg ((segR s).emb j) = j := by
  have h : (j 0).val < 64 := (j 0).isLt
  funext a
  refine Fin.ext ?_
  match a with
  | ⟨0, _⟩ => show (64 * s.val + 1 * (j 0).val) % 64 = (j 0).val; omega
  | ⟨1, _⟩ => show 0 + 1 * (j 1).val = (j 1).val; omega

theorem fin_seg (c : Dev nD) (s : Fin 8) : (fun j => fin P c ((segR s).emb j)) = bsum P (own c s) := by
  funext j; unfold fin; rw [segOf_emb, inSeg_emb]

end Cert.GatedMlp

end
-- ==== Proof.Schedule.lean ====
/-
# `Schedule`: the protocol — who credits which semaphore, with what payload, and in what order the waits may happen

Every cell has one round.

* `bar` of device `c`: one unit from each of its ten partners; with its unit a partner hands over its own landing slot
  for what `c` is going to send it.
* `rs d`: `c`'s `d`-th first-phase transfer has left; nothing is handed over. `rr d` of `c`: the transfer from `pA d c`
  has landed: `c`'s slot `d` holds the sender's partial product at `c`'s segment, and the sender's own rows of that
  segment come along (any contents), to be overwritten by `c` in the last phase.
* `xs e`: a share of `c`'s own segment comes back; `xr e` of `c`: slot `e` holds the A-group sum of `pB e c`.
* `as d`: a share of `c`'s own segment comes back; `ar d` of `c`: the segment of `pA d c` holds that device's total.

A device waits on its barrier while it owes all its transfers, on the first phase while it owes the later two, and so
on: the levels 1, 2, 3, 4 of `lvl`.
-/
module

public import proofs.«01_k».proof.Proof.Cells

@[expose] public section

noncomputable section

namespace Cert.GatedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S512x512 .bf16)

/-! ## Payloads -/

/-- Device `c` holds 64 rows `M` at contents `X`. -/
abbrev holds (c : Dev nD) (M : Memref sig .tc .vmem S64x512 .bf16) (q : PosShare TreeShare) (X : Vec F S64x512 .bf16) : sProp 𝕄 :=
  owns (Ix := Unit) (Name := ℕ) (U := UU) (Lvl := ℕ) (c : Thread nD τ) M q X

/-- The contents of a payload. -/
def pay (c : Dev nD) : Slot → Duty → sProp 𝕄
  | .bar, .inl d => iprop(∃ X, holds (pA d c) (slA d) fullShare X)
  | .bar, .inr e => iprop(∃ X, holds (pB e c) (slB e) fullShare X)
  | .rs _, _ => iprop(emp)
  | .rr d, _ => iprop(holds c (slA d) fullShare (pseg P (pA d c) (qa c)) ∗ ∃ X, holds (pA d c) (seg (qa c)) fullShare X)
  | .xs e, _ => holds c (seg (qa c)) (PosShare.pieces 3 fullShare e) (asum P c)
  | .xr e, _ => holds c (slB e) fullShare (asum P (pB e c))
  | .as d, _ => holds c (seg (qa c)) (PosShare.pieces 7 fullShare d) (bsum P c)
  | .ar d, _ => holds c (seg (qx d (qa c))) fullShare (bsum P (pA d c))

instance pay_storable (c : Dev nD) (k : Slot) (d : Duty) : BI.Storable (upEmb : UEmb _ 𝕄) (pay P c k d) := by
  rcases k with u | k | k | k | k | k | k
  · rcases d with d | d <;> unfold pay <;> infer_instance
  all_goals unfold pay; infer_instance

/-- The duties of a slot's one round. -/
def dut : Slot → Finset Duty
  | .inl _ => Finset.univ
  | .inr _ => {.inl 0}
/-- The credit of a slot's duty. -/
def amt : Slot → ℕ
  | .inl _ => 1
  | .inr _ => N
theorem amt_pos (k : Slot) : 0 < amt k := by
  rcases k with _ | k
  · exact Nat.one_pos
  · exact N_pos

/-- The schedule. -/
def rd : Rounds.Schedule (GSem nD τ sig) Duty 𝕄 where
  duties g r := if r = 0 ∧ g.1.2 = .tc then (match slotOf g.2 with | some k => dut k | none => ∅) else ∅
  unitless _ := False
  amount g _ _ := match slotOf g.2 with | some k => amt k | none => 1
  payload g _ d := match slotOf g.2 with | some k => pay P g.1.1 k d | none => iprop(emp)
  amount_pos g _ _ _ := by
    cases slotOf g.2 with
    | none => exact Nat.one_pos
    | some k => exact amt_pos k

instance rd_storable (g : GSem nD τ sig) (r : ℕ) (d : Duty) : BI.Storable (upEmb : UEmb _ 𝕄) ((rd (F := F) P).payload g r d) := by
  show BI.Storable upEmb (match slotOf g.2 with | some k => pay P g.1.1 k d | none => iprop(emp))
  cases slotOf g.2 <;> infer_instance

theorem duties_cell (c : Dev nD) (k : Slot) : (rd (F := F) P).duties (cell c k) 0 = dut k := by
  dsimp only [rd]; rw [if_pos ⟨rfl, rfl⟩, slotOf_csem]
theorem duties_later (g : GSem nD τ sig) : ∀ r, 1 ≤ r → (rd (F := F) P).duties g r = ∅ :=
  fun r hr => by dsimp only [rd]; rw [if_neg fun h => by omega]
theorem amount_cell (c : Dev nD) (k : Slot) (d : Duty) : (rd (F := F) P).amount (cell c k) 0 d = amt k := by
  dsimp only [rd]; rw [slotOf_csem]
theorem payload_cell (c : Dev nD) (k : Slot) (d : Duty) : (rd (F := F) P).payload (cell c k) 0 d = pay P c k d := by
  dsimp only [rd]; rw [slotOf_csem]
theorem expect_bar (c : Dev nD) : (rd (F := F) P).expect (cell c .bar) 0 = 10 := by
  unfold Schedule.expect Schedule.amountOf
  rw [duties_cell, Finset.sum_congr rfl fun d _ => amount_cell P c .bar d]
  decide
theorem expect_dma (c : Dev nD) (k : OSlot) : (rd (F := F) P).expect (cell c (.inr k)) 0 = N := by
  unfold Schedule.expect Schedule.amountOf
  rw [duties_cell, Finset.sum_congr rfl fun d _ => amount_cell P c (.inr k) d]
  exact Finset.sum_singleton _ _

/-- What the one wait on a transfer's cell hands over. -/
theorem rest_dma (c : Dev nD) (k : OSlot) :
    bigSep ((rd (F := F) P).duties (cell c (.inr k)) 0 \ ∅) (fun d => (rd (F := F) P).payload (cell c (.inr k)) 0 d) = pay P c (.inr k) (.inl 0) := by
  rw [Finset.sdiff_empty, duties_cell]
  exact bigSep_singleton.trans (payload_cell P c _ _)
/-- What the one wait on the barrier cell hands over: every partner's landing slot. -/
theorem rest_bar (c : Dev nD) :
    bigSep ((rd (F := F) P).duties (cell c .bar) 0 \ ∅) (fun d => (rd (F := F) P).payload (cell c .bar) 0 d)
      = iprop((bigSep Finset.univ fun d : Fin 7 => iprop(∃ X, holds (F := F) (pA d c) (slA d) fullShare X))
          ∗ bigSep Finset.univ fun e : Fin 3 => iprop(∃ X, holds (F := F) (pB e c) (slB e) fullShare X)) := by
  rw [Finset.sdiff_empty, duties_cell, bigSep_congr fun d _ => payload_cell P c .bar d]
  exact bigSep_univ_sum _

/-! ## What a device owes -/

/-- The sum of the members of a family from the `k`-th on. -/
def fam {n : ℕ} (f : Fin n → CellTallies nD τ sig Unit) (k : ℕ) : CellTallies nD τ sig Unit := ∑ d with k ≤ d.val, f d

theorem fam_step {n : ℕ} (f : Fin n → CellTallies nD τ sig Unit) (d : Fin n) : fam f d.val = fam f (d.val + 1) + f d := by
  unfold fam
  have h : (Finset.univ.filter fun e : Fin n => d.val ≤ e.val) = insert d (Finset.univ.filter fun e : Fin n => d.val + 1 ≤ e.val) := by
    ext e; simp only [Finset.mem_filter, Finset.mem_univ, true_and, Finset.mem_insert]
    constructor
    · intro h; by_cases he : e = d
      · exact .inl he
      · have : e.val ≠ d.val := fun h' => he (Fin.ext h'); right; omega
    · rintro (rfl | h)
      · exact Nat.le_refl _
      · omega
  rw [h, Finset.sum_insert (by simp), add_comm]
theorem fam_zero {n : ℕ} (f : Fin n → CellTallies nD τ sig Unit) : fam f 0 = ∑ d, f d := by
  unfold fam; exact Finset.sum_congr (Finset.filter_true_of_mem fun _ _ => Nat.zero_le _) fun _ _ => rfl
theorem fam_end {n : ℕ} (f : Fin n → CellTallies nD τ sig Unit) (k : ℕ) (h : n ≤ k) : fam f k = 0 := by
  unfold fam; rw [Finset.filter_false_of_mem fun d _ => by have := d.isLt; omega]; exact Finset.sum_empty

/-- What `c` owes the `d`-th partner's cell of each kind. -/
def oBA (c : Dev nD) (d : Fin 7) : CellTallies nD τ sig Unit := tallyAt (cell (pA d c) .bar) () 1
def oBB (c : Dev nD) (e : Fin 3) : CellTallies nD τ sig Unit := tallyAt (cell (pB e c) .bar) () 1
def oR (c : Dev nD) (d : Fin 7) : CellTallies nD τ sig Unit := tallyAt (cell (pA d c) (.rr d)) () N
def oX (c : Dev nD) (e : Fin 3) : CellTallies nD τ sig Unit := tallyAt (cell (pB e c) (.xr e)) () N
def oG (c : Dev nD) (d : Fin 7) : CellTallies nD τ sig Unit := tallyAt (cell (pA d c) (.ar d)) () N

/-- What `c` owes when it has sent `a` and `b` barrier units and `r`, `x`, `g` transfers of the three phases. -/
def ow (c : Dev nD) (a b r x g : ℕ) : CellTallies nD τ sig Unit :=
  fam (oBA c) a + fam (oBB c) b + fam (oR c) r + fam (oX c) x + fam (oG c) g

theorem ow_a (c : Dev nD) (d : Fin 7) (b r x g : ℕ) : ow c d.val b r x g = ow c (d.val + 1) b r x g + tallyAt (cell (pA d c) .bar) () 1 := by
  unfold ow; rw [fam_step (oBA c) d]; unfold oBA; ac_rfl
theorem ow_b (c : Dev nD) (e : Fin 3) (a r x g : ℕ) : ow c a e.val r x g = ow c a (e.val + 1) r x g + tallyAt (cell (pB e c) .bar) () 1 := by
  unfold ow; rw [fam_step (oBB c) e]; unfold oBB; ac_rfl
theorem ow_r (c : Dev nD) (d : Fin 7) (a b x g : ℕ) : ow c a b d.val x g = ow c a b (d.val + 1) x g + tallyAt (cell (pA d c) (.rr d)) () N := by
  unfold ow; rw [fam_step (oR c) d]; unfold oR; ac_rfl
theorem ow_x (c : Dev nD) (e : Fin 3) (a b r g : ℕ) : ow c a b r e.val g = ow c a b r (e.val + 1) g + tallyAt (cell (pB e c) (.xr e)) () N := by
  unfold ow; rw [fam_step (oX c) e]; unfold oX; ac_rfl
theorem ow_g (c : Dev nD) (d : Fin 7) (a b r x : ℕ) : ow c a b r x d.val = ow c a b r x (d.val + 1) + tallyAt (cell (pA d c) (.ar d)) () N := by
  unfold ow; rw [fam_step (oG c) d]; unfold oG; ac_rfl
theorem ow_end (c : Dev nD) : ow c 7 3 7 3 7 = 0 := by
  unfold ow
  rw [fam_end _ 7 (le_refl _), fam_end _ 3 (le_refl _), fam_end _ 7 (le_refl _), fam_end _ 3 (le_refl _), fam_end _ 7 (le_refl _)]
  simp only [add_zero]

/-! ## Levels -/

/-- The level of a slot. -/
def lvl : Slot → ℕ
  | .bar => 1
  | .rr _ => 2
  | .xr _ => 3
  | .ar _ => 4
  | _ => 0

def L (g : GSem nD τ sig) : Finset Unit := if g.1.2 = .tc then {()} else ∅
def lv (g : GSem nD τ sig) (_ : Unit) : ℕ := match slotOf g.2 with | some k => lvl k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Slot) (u : Unit) : lv (cell c k) u = lvl k := by unfold lv; rw [slotOf_csem]

/-- Everything owed in `O` is owed to cells of level above `n`. -/
def Above (n : ℕ) (O : CellTallies nD τ sig Unit) : Prop := ∀ g u, 0 < O g u → ∃ c k, g = cell c k ∧ n < lvl k

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally (n : ℕ) (c : Dev nD) (k : Slot) (m : ℕ) (h : n < lvl k) : Above n (tallyAt (cell c k) () m) := fun g u hg => by
  rw [tallyAt_apply] at hg
  by_cases hc : g = cell c k ∧ u = ()
  · exact ⟨c, k, hc.1, h⟩
  · rw [if_neg hc] at hg; exact absurd hg (Nat.lt_irrefl 0)
theorem Above.fam {n m : ℕ} (f : Fin m → CellTallies nD τ sig Unit) (k : ℕ) (h : ∀ d, Above n (f d)) : Above n (fam f k) := by
  unfold GatedMlp.fam
  exact Finset.sum_induction _ (Above n) (fun _ _ => Above.add) (Above.zero n) fun d _ => h d

theorem above_a (c : Dev nD) (k n : ℕ) (h : n < 1) : Above n (fam (oBA c) k) := Above.fam _ _ fun d => Above.tally n _ .bar _ h
theorem above_b (c : Dev nD) (k n : ℕ) (h : n < 1) : Above n (fam (oBB c) k) := Above.fam _ _ fun d => Above.tally n _ .bar _ h
theorem above_r (c : Dev nD) (k n : ℕ) (h : n < 2) : Above n (fam (oR c) k) := Above.fam _ _ fun d => Above.tally n _ (.rr d) _ h
theorem above_x (c : Dev nD) (k n : ℕ) (h : n < 3) : Above n (fam (oX c) k) := Above.fam _ _ fun d => Above.tally n _ (.xr d) _ h
theorem above_g (c : Dev nD) (k n : ℕ) (h : n < 4) : Above n (fam (oG c) k) := Above.fam _ _ fun d => Above.tally n _ (.ar d) _ h

/-- Everything a device owes at launch is above level 0, -/
theorem above_0 (c : Dev nD) (a b r x g : ℕ) : Above 0 (ow c a b r x g) :=
  ((((above_a c a 0 (by decide)).add (above_b c b 0 (by decide))).add (above_r c r 0 (by decide))).add (above_x c x 0 (by decide))).add (above_g c g 0 (by decide))
/-- after its signals above level 1, -/
theorem above_1 (c : Dev nD) (r x g : ℕ) : Above 1 (ow c 7 3 r x g) := by
  unfold ow; rw [fam_end _ 7 (le_refl _), fam_end _ 3 (le_refl _)]
  exact ((((Above.zero 1).add (Above.zero 1)).add (above_r c r 1 (by decide))).add (above_x c x 1 (by decide))).add (above_g c g 1 (by decide))
/-- after the first phase's transfers above level 2, -/
theorem above_2 (c : Dev nD) (x g : ℕ) : Above 2 (ow c 7 3 7 x g) := by
  unfold ow; rw [fam_end _ 7 (le_refl _), fam_end _ 3 (le_refl _), fam_end _ 7 (le_refl _)]
  exact ((((Above.zero 2).add (Above.zero 2)).add (Above.zero 2)).add (above_x c x 2 (by decide))).add (above_g c g 2 (by decide))
/-- after the second phase's above level 3, -/
theorem above_3 (c : Dev nD) (g : ℕ) : Above 3 (ow c 7 3 7 3 g) := by
  unfold ow; rw [fam_end _ 7 (le_refl _), fam_end _ 3 (le_refl _), fam_end _ 7 (le_refl _), fam_end _ 3 (le_refl _)]
  exact ((((Above.zero 3).add (Above.zero 3)).add (Above.zero 3)).add (Above.zero 3)).add (above_g c g 3 (by decide))
/-- and at last nothing. -/
theorem above_4 (c : Dev nD) (n : ℕ) : Above n (ow c 7 3 7 3 7) := by rw [ow_end]; exact Above.zero n

/-- A device may wait on a semaphore of level at most `n` while it owes above `n` only. -/
theorem mayWait_sem (c : Dev nD) (sm : SemLoc sig) (n : ℕ) (hsm : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨c', k, rfl, _⟩ := hO g u hg; rw [L_tc]; exact Finset.mem_singleton_self _)
    (fun p hp => by rw [Finset.mem_singleton.mp hp]; exact hsm)
    (fun g u hg => by obtain ⟨c', k, rfl, h⟩ := hO g u hg; rw [lv_cell]; exact h)
theorem mayWait_cell (c : Dev nD) (k : Slot) (O : CellTallies nD τ sig Unit) (hO : Above (lvl k) O) :
    (levAts L lv : sProp 𝕄) ⊢ MayWait (c : Thread nD τ) (csem k) () O :=
  mayWait_sem c (csem k) (lvl k) (le_of_eq (lv_cell c k ())) O hO

end Cert.GatedMlp

end
-- ==== Proof.Steps.lean ====
/-
# `Steps`: one lemma per kind of step of the exchange

A phase handles a family of resources one after the other: `prog A B k` says that the members before the `k`-th are in the
state `B` and the others in the state `A`. Each lemma takes a phase from step `d` to step `d + 1`, for any `d`.
-/
module

public import proofs.«01_k».proof.Proof.Schedule

@[expose] public section

noncomputable section

namespace Cert.GatedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (P : Dev nD → Vec F S512x512 .bf16)

/-! ## Families in progress -/

/-- The members before the `k`-th in state `B`, the others in state `A`. -/
def prog {n : ℕ} (A B : Fin n → sProp 𝕄) (k : ℕ) : sProp 𝕄 := bigSep Finset.univ fun r : Fin n => if k ≤ r.val then A r else B r

theorem prog_zero {n : ℕ} (A B : Fin n → sProp 𝕄) : prog A B 0 = bigSep Finset.univ A := by
  unfold prog; exact bigSep_congr fun r _ => if_pos (Nat.zero_le _)
theorem prog_end {n : ℕ} (A B : Fin n → sProp 𝕄) : prog A B n = bigSep Finset.univ B := by
  unfold prog; exact bigSep_congr fun r _ => if_neg (by have := r.isLt; omega)
/-- The `r`-th member is taken out in state `A` and put back in state `B`. -/
theorem prog_step {n : ℕ} (A B : Fin n → sProp 𝕄) (r : Fin n) : prog A B r.val ⊢ iprop(A r ∗ (B r -∗ prog A B (r.val + 1))) := by
  unfold prog
  rw [bigSep_univ_at (fun s : Fin n => if r.val ≤ s.val then A s else B s) r, bigSep_univ_at (fun s : Fin n => if r.val + 1 ≤ s.val then A s else B s) r,
    if_pos (le_refl _), if_neg (by omega),
    bigSep_congr (s := Finset.univ.erase r) (Φ := fun s : Fin n => if r.val ≤ s.val then A s else B s) (Ψ := fun s : Fin n => if r.val + 1 ≤ s.val then A s else B s)
      fun s hs => by
        have hne : s.val ≠ r.val := fun h => (Finset.ne_of_mem_erase hs) (Fin.ext h)
        by_cases h : r.val ≤ s.val
        · rw [if_pos h, if_pos (by omega)]
        · rw [if_neg h, if_neg (by omega)]]
  iintro ⟨HA, Hr⟩
  isplitl [HA]; · iexact HA
  iintro HB
  isplitl [HB] <;> iassumption

/-! ## What every device knows, and what it owes -/

/-- The levels of the cells. -/
@[irreducible] def levs : sProp 𝕄 := levAts L lv
instance levs_persistent : BI.Persistent (levs (F := F)) := by unfold levs; infer_instance
theorem levs_mayWait (c : Dev nD) (k : Slot) (O : CellTallies nD τ sig Unit) (hO : Above (lvl k) O) :
    (levs : sProp 𝕄) ⊢ MayWait (c : Thread nD τ) (csem k) () O := by
  unfold levs; exact mayWait_cell c k O hO

/-- The cells' invariants (under the names `K`), that every cell is at round 0, and the levels. -/
def recs (K : Dev nD × Slot → ℕ) : sProp 𝕄 :=
  iprop((bigSep Finset.univ fun ck : Dev nD × Slot => cellInv ER (rd P) (K ck) (kcell ck))
    ∗ (bigSep Finset.univ fun ck : Dev nD × Slot => reached ER (kcell ck) 0) ∗ levs)

instance recs_persistent (K : Dev nD × Slot → ℕ) : BI.Persistent (recs P K) := by unfold recs; infer_instance

theorem recs_inv (K : Dev nD × Slot → ℕ) (c : Dev nD) (k : Slot) : recs P K ⊢ cellInv ER (rd P) (K (c, k)) (cell c k) := by
  classical
  unfold recs; iintro ⟨H, -, -⟩
  iapply (show _ ⊢ (cellInv ER (rd P) (K (c, k)) (kcell (c, k)) : sProp 𝕄) from bigSep_elim (Φ := fun ck : Dev nD × Slot => (cellInv ER (rd P) (K ck) (kcell ck) : sProp 𝕄)) (Finset.mem_univ (c, k))); iexact H
theorem recs_reached (K : Dev nD × Slot → ℕ) (c : Dev nD) (k : Slot) : recs P K ⊢ reached ER (cell c k) 0 := by
  classical
  unfold recs; iintro ⟨-, H, -⟩
  iapply (show _ ⊢ (reached ER (kcell (c, k)) 0 : sProp 𝕄) from bigSep_elim (Φ := fun ck : Dev nD × Slot => (reached ER (kcell ck) 0 : sProp 𝕄)) (Finset.mem_univ (c, k))); iexact H
theorem recs_lev (K : Dev nD × Slot → ℕ) : recs P K ⊢ (levs : sProp 𝕄) := by
  unfold recs; iintro ⟨-, -, H⟩; iexact H

/-- Device `c` owes `O`, whatever it has waited on. -/
def owed (c : Dev nD) (O : CellTallies nD τ sig Unit) : sProp 𝕄 := iprop(∃ W, owes (c : Thread nD τ) O W)

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Slot → ℕ) (c : Dev nD)

/-! ## Signals -/

section Signal
variable {α : Type} {Q : α → sProp (MT nD τ sig Unit (Elt F) ℕ UU ℕ)} {k : PUnit → Prog (TpuEff nD τ sig (Elt F) Λ₀ .tc) α} {k' : ℕ}

/-- A signal of one unit to the barrier of device `n`, paying duty `d` of it. -/
theorem wp_sig (n : Dev nD) (d : Duty) (hk : k' = 1) {O₀ : CellTallies nD τ sig Unit} (O : CellTallies nD τ sig Unit)
    (hO : O₀ = O + tallyAt (cell n .bar) () 1) :
    iprop(recs P K ∗ owed (F := F) c O₀ ∗ dutyTok ER (cell n .bar) 0 d ∗ pay P n .bar d)
      ⊢ iprop((owed c O -∗ wpc c (k ⟨⟩) Q) -∗ wpc c (.op (.semSignal (n : Thread nD τ) barS k') k) Q) := by
  subst hk
  unfold owed
  iintro ⟨#HR, ⟨%W, HO⟩, Ht, Hp⟩ Hk
  have h := Rounds.wp_signal (defs := defs₀ (F := F)) (Γ := .empty) (k := k) (Q := Q) (Es := Set.univ) 𝒱₀ ER (rd P) (c : Thread nD τ) none (dst := (n : Thread nD τ)) (sem := barS) (r := 0) (κ := K (n, .bar)) (d := d)
      (by show d ∈ (rd P).duties (cell n .bar) 0; rw [duties_cell]; exact Finset.mem_univ _) (k' := 1) (amount_cell P n .bar d) () (O₀ := O₀) O hO (W := W)
  rw [show (rd P).payload ((n : Thread nD τ), SemLoc.reg barS) 0 d = pay P n .bar d from payload_cell P n .bar d] at h
  iapply h $$ [HO Ht Hp]
  · isplitr; · iapply (show recs P K ⊢ cellInv ER (rd P) (K (n, .bar)) ((n : Thread nD τ), SemLoc.reg barS) from recs_inv P K n .bar); iexact HR
    isplitl [HO]; · iexact HO
    isplitl [Ht]; · iexact Ht
    isplitl [Hp]; · iexact Hp
    iapply (show recs P K ⊢ reached ER ((n : Thread nD τ), SemLoc.reg barS) 0 from recs_reached P K n .bar); iexact HR
  iintro HO; iapply Hk; iexists W; iexact HO

/-- What the signal to the `d`-th A-partner takes. -/
def sA (d : Fin 7) : sProp 𝕄 := iprop(dutyTok ER (cell (pA d c) .bar) 0 (.inl d) ∗ ∃ X, holds c (slA d) fullShare X)
/-- What the signal to the `e`-th B-partner takes. -/
def sB (e : Fin 3) : sProp 𝕄 := iprop(dutyTok ER (cell (pB e c) .bar) 0 (.inr e) ∗ ∃ X, holds c (slB e) fullShare X)
/-- Nothing. -/
def nil {n : ℕ} (_ : Fin n) : sProp 𝕄 := iprop(emp)

theorem wp_sigA (d : Fin 7) {n : Dev nD} (hn : n.val = (pA d c).val) (hk : k' = 1) (b r x g : ℕ) :
    iprop(recs P K ∗ owed (F := F) c (ow c d.val b r x g) ∗ prog (sA c) nil d.val)
      ⊢ iprop((iprop(owed (F := F) c (ow c (d.val + 1) b r x g) ∗ prog (sA c) nil (d.val + 1)) -∗ wpc c (k ⟨⟩) Q)
          -∗ wpc c (.op (.semSignal (n : Thread nD τ) barS k') k) Q) := by
  obtain rfl : n = pA d c := Fin.ext hn
  iintro ⟨#HR, HO, HP⟩ Hk
  ihave HP' := (prog_step (F := F) (sA c) nil d) $$ HP
  icases HP' with ⟨HA, HP⟩
  unfold sA
  icases HA with ⟨Ht, Hs⟩
  iapply (wp_sig P K c (pA d c) (.inl d) hk (ow c (d.val + 1) b r x g) (ow_a c d b r x g)) $$ [HO Ht Hs]
  · isplitr; · iexact HR
    isplitl [HO]; · iexact HO
    isplitl [Ht]; · iexact Ht
    iapply (show iprop(∃ X, holds (F := F) c (slA d) fullShare X) ⊢ pay P (pA d c) .bar (.inl d) from Entails.of_eq (by show _ = iprop(∃ X, holds (pA d (pA d c)) (slA d) fullShare X); rw [pA_pA])); iexact Hs
  iintro HO
  iapply Hk
  isplitl [HO]; · iexact HO
  iapply HP; unfold nil; iempintro

theorem wp_sigB (e : Fin 3) {n : Dev nD} (hn : n.val = (pB e c).val) (hk : k' = 1) (a r x g : ℕ) :
    iprop(recs P K ∗ owed (F := F) c (ow c a e.val r x g) ∗ prog (sB c) nil e.val)
      ⊢ iprop((iprop(owed (F := F) c (ow c a (e.val + 1) r x g) ∗ prog (sB c) nil (e.val + 1)) -∗ wpc c (k ⟨⟩) Q)
          -∗ wpc c (.op (.semSignal (n : Thread nD τ) barS k') k) Q) := by
  obtain rfl : n = pB e c := Fin.ext hn
  iintro ⟨#HR, HO, HP⟩ Hk
  ihave HP' := (prog_step (F := F) (sB c) nil e) $$ HP
  icases HP' with ⟨HA, HP⟩
  unfold sB
  icases HA with ⟨Ht, Hs⟩
  iapply (wp_sig P K c (pB e c) (.inr e) hk (ow c a (e.val + 1) r x g) (ow_b c e a r x g)) $$ [HO Ht Hs]
  · isplitr; · iexact HR
    isplitl [HO]; · iexact HO
    isplitl [Ht]; · iexact Ht
    iapply (show iprop(∃ X, holds (F := F) c (slB e) fullShare X) ⊢ pay P (pB e c) .bar (.inr e) from Entails.of_eq (by show _ = iprop(∃ X, holds (pB e (pB e c)) (slB e) fullShare X); rw [pB_pB])); iexact Hs
  iintro HO
  iapply Hk
  isplitl [HO]; · iexact HO
  iapply HP; unfold nil; iempintro

end Signal

/-! ## Waits -/

section Wait
variable {α : Type} {Q : α → sProp (MT nD τ sig Unit (Elt F) ℕ UU ℕ)} {k : PUnit → Prog (TpuEff nD τ sig (Elt F) Λ₀ .tc) α}

/-- The wait on the barrier: every partner's landing slot. -/
theorem wp_waitBar {k' : ℕ} (hk : k' = 10) (O : CellTallies nD τ sig Unit) (hO : Above 1 O) :
    iprop(recs P K ∗ owed (F := F) c O ∗ cred (tallyAt (cell c .bar) () 10) ∗ atPos ER (cell c .bar) 0 ∅ 0)
      ⊢ iprop((iprop(owed (F := F) c O ∗ atPos ER (cell c .bar) 1 ∅ 0
            ∗ (bigSep Finset.univ fun d : Fin 7 => iprop(∃ X, holds (F := F) (pA d c) (slA d) fullShare X))
            ∗ bigSep Finset.univ fun e : Fin 3 => iprop(∃ X, holds (F := F) (pB e c) (slB e) fullShare X)) -∗ wpc c (k ⟨⟩) Q)
          -∗ wpc c (.op (.semWait barS k') k) Q) := by
  subst hk
  have hk : 0 + 10 = (rd P).expect (cell c .bar) 0 := by rw [expect_bar]
  unfold owed
  iintro ⟨#HR, ⟨%W, HO⟩, Hc, Ha⟩ Hk
  iapply (Rounds.wp_wait_rest_token 𝒱₀ ER (rd P) (c : Thread nD τ) none (κ := K (c, .bar)) (sm := csem .bar) (k' := 10)
      (fun Kt => by rw [wpE_semWait_eq]; rfl) (Set.mem_univ _) () (O := O) (W := W) (R := 0) (m := 0) (T := ∅)
      hk) $$ [HO Hc Ha]
  · isplitr; · iapply (recs_inv P K c .bar); iexact HR
    isplitl [Hc]; · iexact Hc
    isplitl [HO]; · iexact HO
    isplitr; · iapply ((recs_lev P K).trans (levs_mayWait (F := F) c .bar O hO)); iexact HR
    iexact Ha
  iintro ⟨HO, Ha, -, Hp⟩
  ihave Hp := (show (bigSep ((rd P).duties (cell c .bar) 0 \ ∅) fun d => (rd P).payload (cell c .bar) 0 d) ⊢ _ from Entails.of_eq (rest_bar P c)) $$ Hp
  icases Hp with ⟨HpA, HpB⟩
  iapply Hk
  isplitl [HO]; · iexists _; iexact HO
  isplitl [Ha]; · iexact Ha
  isplitl [HpA] <;> iassumption

/-- Before the wait on a transfer's semaphore: its credit and the position; after it: the payload. -/
def wB {n : ℕ} (kf : Fin n → OSlot) (d : Fin n) : sProp 𝕄 :=
  iprop(cred (tallyAt (cell c (.inr (kf d))) () N) ∗ atPos ER (cell c (.inr (kf d))) 0 ∅ 0)
def wA {n : ℕ} (kf : Fin n → OSlot) (d : Fin n) : sProp 𝕄 :=
  iprop(atPos ER (cell c (.inr (kf d))) 1 ∅ 0 ∗ pay P c (.inr (kf d)) (.inl 0))

/-- The wait on a transfer's semaphore. -/
theorem wp_waitF {n : ℕ} (kf : Fin n → OSlot) (d : Fin n) {sp sp' : Space} {s s' : Shape} {e e' : EltTy} {sem : DmaSem sig}
    {src : Memref sig .tc sp' s' e'} {dst : Memref sig .tc sp s e} {hsrc : src.view.WordExact} {hdst : dst.view.WordExact}
    (hs : SemLoc.dma sem = csem (.inr (kf d))) (hN : dst.view.dmaCredit = N) (O : CellTallies nD τ sig Unit) (hO : Above (lvl (.inr (kf d))) O) :
    iprop(recs P K ∗ owed (F := F) c O ∗ prog (wB c kf) (wA P c kf) d.val)
      ⊢ iprop((iprop(owed (F := F) c O ∗ prog (wB c kf) (wA P c kf) (d.val + 1)) -∗ wpc c (k ⟨⟩) Q)
          -∗ wpc c (.op (.waitDma2 sem src dst hsrc hdst) k) Q) := by
  iintro ⟨#HR, HO, HP⟩ Hk
  have hl := (recs_lev P K).trans (levs_mayWait (F := F) c (.inr (kf d)) O hO)
  have hk : 0 + N = (rd P).expect (cell c (.inr (kf d))) 0 := by rw [expect_dma, Nat.zero_add]
  ihave HP' := (prog_step (F := F) (wB c kf) (wA P c kf) d) $$ HP
  icases HP' with ⟨HA, HP⟩
  unfold wB owed
  icases HA with ⟨Hc, Ha⟩
  icases HO with ⟨%W, HO⟩
  iapply (Rounds.wp_wait_rest_token 𝒱₀ ER (rd P) (c : Thread nD τ) none (κ := K (c, .inr (kf d))) (sm := csem (.inr (kf d))) (k' := N)
      (fun Kt => by rw [wpE_waitDma2_eq, hs, hN]) (Set.mem_univ _) () (O := O) (W := W) (R := 0) (m := 0) (T := ∅)
      hk) $$ [HO Hc Ha]
  · isplitr; · iapply (recs_inv P K c (.inr (kf d))); iexact HR
    isplitl [Hc]; · iexact Hc
    isplitl [HO]; · iexact HO
    isplitr; · iapply hl; iexact HR
    iexact Ha
  iintro ⟨HO, Ha, -, Hp⟩
  ihave Hp := (Entails.of_eq (rest_dma P c (kf d))) $$ Hp
  iapply Hk
  isplitl [HO]; · iexists _; iexact HO
  iapply HP; unfold wA
  isplitl [Ha] <;> iassumption

end Wait

/-! ## Transfers -/

section Copy
variable {α : Type} {Q : α → sProp (MT nD τ sig Unit (Elt F) ℕ UU ℕ)} {k : PUnit → Prog (TpuEff nD τ sig (Elt F) Λ₀ .tc) α}

/-- A transfer to device `n` whose source share comes back when it has left. -/
theorem wp_copy {src dst : Memref sig .tc .vmem S64x512 .bf16} (n : Dev nD) (ks kr : OSlot) {sS sem : SemLoc sig}
    (hsS : sS = csem (.inr ks)) (hsem' : sem = csem (.inr kr)) (hN : dst.view.amount sem = N) (q : PosShare TreeShare) (X : Vec F S64x512 .bf16)
    {hsc : (dst : Memref sig (Dev.tc n : Thread nD τ).2.kind .vmem S64x512 .bf16).view.ref.isScScratch = false}
    {hsrc : src.view.WordExact} {hdst : dst.view.WordExact} {hsem : DmaTarget.Typed .vmem sem (.remote (Dev.tc n : Thread nD τ) dst sS hsc)}
    {O₀ : CellTallies nD τ sig Unit} (O : CellTallies nD τ sig Unit) (hO : O₀ = O + tallyAt (cell n (.inr kr)) () N)
    (hp₁ : holds c src q X ⊢ pay P c (.inr ks) (.inl 0)) (hp₂ : holds n dst fullShare X ⊢ pay P n (.inr kr) (.inl 0)) :
    iprop(recs P K ∗ owed (F := F) c O₀ ∗ dutyTok ER (cell c (.inr ks)) 0 (.inl 0) ∗ dutyTok ER (cell n (.inr kr)) 0 (.inl 0)
        ∗ holds c src q X ∗ ∃ Y, holds (F := F) n dst fullShare Y)
      ⊢ iprop((iprop(owed (F := F) c O ∗ cred (tallyAt (cell c (.inr ks)) () N)) -∗ wpc c (k ⟨⟩) Q)
          -∗ wpc c (.op (.enqueueDma src (.remote (Dev.tc n : Thread nD τ) dst sS hsc) sem hsrc hdst hsem) k) Q) := by
  subst hsS hsem'
  unfold owed
  iintro ⟨#HR, ⟨%W, HO⟩, Ht₁, Ht₂, Hs, ⟨%Y, Hd⟩⟩ Hk
  ihave Hs' := (show holds c src q X ⊢ iprop(∃ f, ⌜src.view.read (Elt F) f = X⌝ ∗ (src.view.loc (c : Thread nD τ) ↦[src.view.set]{q} f)) from .rfl) $$ Hs
  ihave Hd' := (show holds n dst fullShare Y ⊢ iprop(∃ f, ⌜dst.view.read (Elt F) f = Y⌝ ∗ (dst.view.loc (n : Thread nD τ) ↦[dst.view.set]{fullShare} f)) from .rfl) $$ Hd
  icases Hs' with ⟨%fs, %hfs, Hs⟩
  icases Hd' with ⟨%fd, -, Hd⟩
  have hd₁ : Sum.inl 0 ∈ (rd P).duties (c, csem (.inr ks)) 0 := by rw [duties_cell]; exact Finset.mem_singleton_self _
  have hd₂ : Sum.inl 0 ∈ (rd P).duties (n, csem (.inr kr)) 0 := by rw [duties_cell]; exact Finset.mem_singleton_self _
  have hk₁ : (rd P).amount ((c : Thread nD τ), csem (.inr ks)) 0 (.inl 0) = N := amount_cell P c (.inr ks) (.inl 0)
  have hk₂ : (rd P).amount ((n : Thread nD τ), csem (.inr kr)) 0 (.inl 0) = N := amount_cell P n (.inr kr) (.inl 0)
  have hpay₁ : (src.view.loc (c : Thread nD τ) ↦[src.view.set]{q} fs) ⊢ (rd P).payload ((c : Thread nD τ), csem (.inr ks)) 0 (.inl 0) := by
    rw [show (rd P).payload ((c : Thread nD τ), csem (.inr ks)) 0 (.inl 0) = _ from payload_cell P c (.inr ks) (.inl 0)]
    refine .trans ?_ hp₁
    rw [← hfs]
    exact owns_intro (c : Thread nD τ) src q fs
  have hpay₂ : (dst.view.loc (n : Thread nD τ) ↦[dst.view.set]{fullShare} (dst.view.write (Elt F) fd (src.view.read (Elt F) fs) Finset.univ)) ⊢ (rd P).payload ((n : Thread nD τ), csem (.inr kr)) 0 (.inl 0) := by
    rw [show (rd P).payload ((n : Thread nD τ), csem (.inr kr)) 0 (.inl 0) = _ from payload_cell P n (.inr kr) (.inl 0)]
    refine .trans (owns_intro (n : Thread nD τ) dst fullShare _) ?_
    rw [View.read_write_univ, hfs]
    exact hp₂
  have h := Rounds.wp_send_pointsTo (defs := defs₀ (F := F)) (Γ := .empty) (k := k) (Q := Q) (Es := Set.univ) (hsrc := hsrc) (hdst := hdst) (hsem := hsem) 𝒱₀ ER (rd P) (c : Thread nD τ) none
    (κ₁ := K (c, .inr ks)) (κ₂ := K (n, .inr kr)) (fs := fs) (fd := fd) (q := q) hd₁ hd₂ () () N hN hk₁ hk₂ O (O₀ := O₀) hO (W := W) hpay₁ hpay₂
  iapply h $$ [HO Ht₁ Ht₂ Hs Hd]
  · isplitr; · iapply (recs_inv P K c (.inr ks)); iexact HR
    isplitr; · iapply (recs_inv P K n (.inr kr)); iexact HR
    isplitl [Hs]; · iexact Hs
    isplitl [Hd]; · iexact Hd
    isplitl [HO]; · iexact HO
    isplitl [Ht₁]; · iexact Ht₁
    isplitr; · iapply (recs_reached P K c (.inr ks)); iexact HR
    isplitl [Ht₂]; · iexact Ht₂
    iapply (recs_reached P K n (.inr kr)); iexact HR
  iintro ⟨Hc, HO⟩
  iapply Hk
  isplitl [HO]; · iexists W; iexact HO
  iexact Hc

/-- A transfer to device `n` whose source goes along with what has landed. -/
theorem wp_copy_landing {src dst : Memref sig .tc .vmem S64x512 .bf16} (n : Dev nD) (ks kr : OSlot) {sS sem : SemLoc sig}
    (hsS : sS = csem (.inr ks)) (hsem' : sem = csem (.inr kr)) (hN : dst.view.amount sem = N) (q : PosShare TreeShare) (X : Vec F S64x512 .bf16)
    {hsc : (dst : Memref sig (Dev.tc n : Thread nD τ).2.kind .vmem S64x512 .bf16).view.ref.isScScratch = false}
    {hsrc : src.view.WordExact} {hdst : dst.view.WordExact} {hsem : DmaTarget.Typed .vmem sem (.remote (Dev.tc n : Thread nD τ) dst sS hsc)}
    {O₀ : CellTallies nD τ sig Unit} (O : CellTallies nD τ sig Unit) (hO : O₀ = O + tallyAt (cell n (.inr kr)) () N)
    (hp₁ : (emp : sProp 𝕄) ⊢ pay P c (.inr ks) (.inl 0))
    (hp₂ : iprop(holds n dst fullShare X ∗ holds c src q X) ⊢ pay P n (.inr kr) (.inl 0)) :
    iprop(recs P K ∗ owed (F := F) c O₀ ∗ dutyTok ER (cell c (.inr ks)) 0 (.inl 0) ∗ dutyTok ER (cell n (.inr kr)) 0 (.inl 0)
        ∗ holds c src q X ∗ ∃ Y, holds (F := F) n dst fullShare Y)
      ⊢ iprop((iprop(owed (F := F) c O ∗ cred (tallyAt (cell c (.inr ks)) () N)) -∗ wpc c (k ⟨⟩) Q)
          -∗ wpc c (.op (.enqueueDma src (.remote (Dev.tc n : Thread nD τ) dst sS hsc) sem hsrc hdst hsem) k) Q) := by
  subst hsS hsem'
  unfold owed
  iintro ⟨#HR, ⟨%W, HO⟩, Ht₁, Ht₂, Hs, ⟨%Y, Hd⟩⟩ Hk
  ihave Hs' := (show holds c src q X ⊢ iprop(∃ f, ⌜src.view.read (Elt F) f = X⌝ ∗ (src.view.loc (c : Thread nD τ) ↦[src.view.set]{q} f)) from .rfl) $$ Hs
  ihave Hd' := (show holds n dst fullShare Y ⊢ iprop(∃ f, ⌜dst.view.read (Elt F) f = Y⌝ ∗ (dst.view.loc (n : Thread nD τ) ↦[dst.view.set]{fullShare} f)) from .rfl) $$ Hd
  icases Hs' with ⟨%fs, %hfs, Hs⟩
  icases Hd' with ⟨%fd, -, Hd⟩
  have hd₁ : Sum.inl 0 ∈ (rd P).duties (c, csem (.inr ks)) 0 := by rw [duties_cell]; exact Finset.mem_singleton_self _
  have hd₂ : Sum.inl 0 ∈ (rd P).duties (n, csem (.inr kr)) 0 := by rw [duties_cell]; exact Finset.mem_singleton_self _
  have hk₁ : (rd P).amount ((c : Thread nD τ), csem (.inr ks)) 0 (.inl 0) = N := amount_cell P c (.inr ks) (.inl 0)
  have hk₂ : (rd P).amount ((n : Thread nD τ), csem (.inr kr)) 0 (.inl 0) = N := amount_cell P n (.inr kr) (.inl 0)
  have hpay₁ : (emp : sProp 𝕄) ⊢ (rd P).payload ((c : Thread nD τ), csem (.inr ks)) 0 (.inl 0) := by
    rw [show (rd P).payload ((c : Thread nD τ), csem (.inr ks)) 0 (.inl 0) = _ from payload_cell P c (.inr ks) (.inl 0)]
    exact hp₁
  have hpay₂ : iprop((dst.view.loc (n : Thread nD τ) ↦[dst.view.set]{fullShare} (dst.view.write (Elt F) fd (src.view.read (Elt F) fs) Finset.univ))
      ∗ (src.view.loc (c : Thread nD τ) ↦[src.view.set]{q} fs)) ⊢ (rd P).payload ((n : Thread nD τ), csem (.inr kr)) 0 (.inl 0) := by
    rw [show (rd P).payload ((n : Thread nD τ), csem (.inr kr)) 0 (.inl 0) = _ from payload_cell P n (.inr kr) (.inl 0)]
    refine .trans ?_ hp₂
    have h₁ : (dst.view.loc (n : Thread nD τ) ↦[dst.view.set]{fullShare} (dst.view.write (Elt F) fd (src.view.read (Elt F) fs) Finset.univ)) ⊢ (holds n dst fullShare X : sProp 𝕄) := by
      refine .trans (owns_intro (n : Thread nD τ) dst fullShare _) ?_
      rw [View.read_write_univ, hfs]
    have h₂ : (src.view.loc (c : Thread nD τ) ↦[src.view.set]{q} fs) ⊢ (holds c src q X : sProp 𝕄) := by
      rw [← hfs]; exact owns_intro (c : Thread nD τ) src q fs
    iintro ⟨H₁, H₂⟩
    isplitl [H₁]
    · iapply h₁; iexact H₁
    · iapply h₂; iexact H₂
  have h := Rounds.wp_send_landing_pointsTo (defs := defs₀ (F := F)) (Γ := .empty) (k := k) (Q := Q) (Es := Set.univ) (hsrc := hsrc) (hdst := hdst) (hsem := hsem) 𝒱₀ ER (rd P) (c : Thread nD τ) none
    (κ₁ := K (c, .inr ks)) (κ₂ := K (n, .inr kr)) (fs := fs) (fd := fd) (q := q) hd₁ hd₂ () () N hN hk₁ hk₂ O (O₀ := O₀) hO (W := W) hpay₁ hpay₂
  iapply h $$ [HO Ht₁ Ht₂ Hs Hd]
  · isplitr; · iapply (recs_inv P K c (.inr ks)); iexact HR
    isplitr; · iapply (recs_inv P K n (.inr kr)); iexact HR
    isplitl [Hs]; · iexact Hs
    isplitl [Hd]; · iexact Hd
    isplitl [HO]; · iexact HO
    isplitl [Ht₁]; · iexact Ht₁
    isplitr; · iapply (recs_reached P K c (.inr ks)); iexact HR
    isplitl [Ht₂]; · iexact Ht₂
    iapply (recs_reached P K n (.inr kr)); iexact HR
  iintro ⟨Hc, HO⟩
  iapply Hk
  isplitl [HO]; · iexists W; iexact HO
  iexact Hc

/-- The slots' transfers as families. -/
abbrev kRS (d : Fin 7) : OSlot := .inl d
abbrev kRR (d : Fin 7) : OSlot := .inr (.inl d)
abbrev kXS (e : Fin 3) : OSlot := .inr (.inr (.inl e))
abbrev kXR (e : Fin 3) : OSlot := .inr (.inr (.inr (.inl e)))
abbrev kAS (d : Fin 7) : OSlot := .inr (.inr (.inr (.inr (.inl d))))
abbrev kAR (d : Fin 7) : OSlot := .inr (.inr (.inr (.inr (.inr d))))

/-- What the `d`-th transfer of the first phase takes, -/
def cR (d : Fin 7) : sProp 𝕄 :=
  iprop(atPos ER (cell c (.rs d)) 0 ∅ 0 ∗ dutyTok ER (cell c (.rs d)) 0 (.inl 0) ∗ dutyTok ER (cell (pA d c) (.rr d)) 0 (.inl 0)
    ∗ holds c (seg (qx d (qa c))) fullShare (pseg P c (qx d (qa c))) ∗ ∃ Y, holds (F := F) (pA d c) (slA d) fullShare Y)
/-- the `e`-th of the second, -/
def cX (e : Fin 3) : sProp 𝕄 :=
  iprop(atPos ER (cell c (.xs e)) 0 ∅ 0 ∗ dutyTok ER (cell c (.xs e)) 0 (.inl 0) ∗ dutyTok ER (cell (pB e c) (.xr e)) 0 (.inl 0)
    ∗ holds c (seg (qa c)) (PosShare.pieces 3 fullShare e) (asum P c) ∗ ∃ Y, holds (F := F) (pB e c) (slB e) fullShare Y)
/-- the `d`-th of the third. -/
def cG (d : Fin 7) : sProp 𝕄 :=
  iprop(atPos ER (cell c (.as d)) 0 ∅ 0 ∗ dutyTok ER (cell c (.as d)) 0 (.inl 0) ∗ dutyTok ER (cell (pA d c) (.ar d)) 0 (.inl 0)
    ∗ holds c (seg (qa c)) (PosShare.pieces 7 fullShare d) (bsum P c) ∗ ∃ Y, holds (F := F) (pA d c) (seg (qa c)) fullShare Y)

/-- The `d`-th transfer of the first phase. -/
theorem wp_copyR (d : Fin 7) {src dst : Memref sig .tc .vmem S64x512 .bf16} (hs : src = seg (qx d (qa c))) (hd : dst = slA d)
    {n : Dev nD} (hn : n.val = (pA d c).val) {sS sem : SemLoc sig} (hsS : sS = csem (.rs d)) (hsem' : sem = csem (.rr d))
    {hsc : (dst : Memref sig (Dev.tc n : Thread nD τ).2.kind .vmem S64x512 .bf16).view.ref.isScScratch = false}
    {hsrc : src.view.WordExact} {hdst : dst.view.WordExact} {hsem : DmaTarget.Typed .vmem sem (.remote (Dev.tc n : Thread nD τ) dst sS hsc)}
    (a b x g : ℕ) :
    iprop(recs P K ∗ owed (F := F) c (ow c a b d.val x g) ∗ prog (cR P c) (wB c kRS) d.val)
      ⊢ iprop((iprop(owed (F := F) c (ow c a b (d.val + 1) x g) ∗ prog (cR P c) (wB c kRS) (d.val + 1)) -∗ wpc c (k ⟨⟩) Q)
          -∗ wpc c (.op (.enqueueDma src (.remote (Dev.tc n : Thread nD τ) dst sS hsc) sem hsrc hdst hsem) k) Q) := by
  obtain rfl : n = pA d c := Fin.ext hn
  subst hs hd
  iintro ⟨#HR, HO, HP⟩ Hk
  ihave HP' := (prog_step (F := F) (cR P c) (wB c kRS) d) $$ HP
  icases HP' with ⟨HA, HP⟩
  unfold cR
  icases HA with ⟨Ha, Ht₁, Ht₂, Hs, Hd⟩
  iapply (wp_copy_landing P K c (pA d c) (kRS d) (kRR d) hsS hsem' (by rw [hsem']; rfl) fullShare (pseg P c (qx d (qa c)))
    (ow c a b (d.val + 1) x g) (ow_r c d a b x g) (BI.Entails.refl _)
    (by
      show _ ⊢ iprop(holds (pA d c) (slA d) fullShare (pseg P (pA d (pA d c)) (qa (pA d c))) ∗ ∃ X, holds (pA d (pA d c)) (seg (qa (pA d c))) fullShare X)
      rw [pA_pA, qa_pA]
      iintro ⟨H, H'⟩
      isplitl [H]; · iexact H
      iexists _; iexact H')) $$ [HO Ht₁ Ht₂ Hs Hd]
  · isplitr; · iexact HR
    isplitl [HO]; · iexact HO
    isplitl [Ht₁]; · iexact Ht₁
    isplitl [Ht₂]; · iexact Ht₂
    isplitl [Hs] <;> iassumption
  iintro ⟨HO, Hc⟩
  iapply Hk
  isplitl [HO]; · iexact HO
  iapply HP; unfold wB
  isplitl [Hc] <;> iassumption

/-- The `e`-th transfer of the second phase. -/
theorem wp_copyX (e : Fin 3) {src dst : Memref sig .tc .vmem S64x512 .bf16} (hs : src = seg (qa c)) (hd : dst = slB e)
    {n : Dev nD} (hn : n.val = (pB e c).val) {sS sem : SemLoc sig} (hsS : sS = csem (.xs e)) (hsem' : sem = csem (.xr e))
    {hsc : (dst : Memref sig (Dev.tc n : Thread nD τ).2.kind .vmem S64x512 .bf16).view.ref.isScScratch = false}
    {hsrc : src.view.WordExact} {hdst : dst.view.WordExact} {hsem : DmaTarget.Typed .vmem sem (.remote (Dev.tc n : Thread nD τ) dst sS hsc)}
    (a b r g : ℕ) :
    iprop(recs P K ∗ owed (F := F) c (ow c a b r e.val g) ∗ prog (cX P c) (wB c kXS) e.val)
      ⊢ iprop((iprop(owed (F := F) c (ow c a b r (e.val + 1) g) ∗ prog (cX P c) (wB c kXS) (e.val + 1)) -∗ wpc c (k ⟨⟩) Q)
          -∗ wpc c (.op (.enqueueDma src (.remote (Dev.tc n : Thread nD τ) dst sS hsc) sem hsrc hdst hsem) k) Q) := by
  obtain rfl : n = pB e c := Fin.ext hn
  subst hs hd
  iintro ⟨#HR, HO, HP⟩ Hk
  ihave HP' := (prog_step (F := F) (cX P c) (wB c kXS) e) $$ HP
  icases HP' with ⟨HA, HP⟩
  unfold cX
  icases HA with ⟨Ha, Ht₁, Ht₂, Hs, Hd⟩
  iapply (wp_copy P K c (pB e c) (kXS e) (kXR e) hsS hsem' (by rw [hsem']; rfl) (PosShare.pieces 3 fullShare e) (asum P c)
    (ow c a b r (e.val + 1) g) (ow_x c e a b r g) (BI.Entails.refl _)
    (by
      show _ ⊢ holds (pB e c) (slB e) fullShare (asum P (pB e (pB e c)))
      rw [pB_pB])) $$ [HO Ht₁ Ht₂ Hs Hd]
  · isplitr; · iexact HR
    isplitl [HO]; · iexact HO
    isplitl [Ht₁]; · iexact Ht₁
    isplitl [Ht₂]; · iexact Ht₂
    isplitl [Hs] <;> iassumption
  iintro ⟨HO, Hc⟩
  iapply Hk
  isplitl [HO]; · iexact HO
  iapply HP; unfold wB
  isplitl [Hc] <;> iassumption

/-- The `d`-th transfer of the third phase. -/
theorem wp_copyG (d : Fin 7) {src dst : Memref sig .tc .vmem S64x512 .bf16} (hs : src = seg (qa c)) (hd : dst = seg (qa c))
    {n : Dev nD} (hn : n.val = (pA d c).val) {sS sem : SemLoc sig} (hsS : sS = csem (.as d)) (hsem' : sem = csem (.ar d))
    {hsc : (dst : Memref sig (Dev.tc n : Thread nD τ).2.kind .vmem S64x512 .bf16).view.ref.isScScratch = false}
    {hsrc : src.view.WordExact} {hdst : dst.view.WordExact} {hsem : DmaTarget.Typed .vmem sem (.remote (Dev.tc n : Thread nD τ) dst sS hsc)}
    (a b r x : ℕ) :
    iprop(recs P K ∗ owed (F := F) c (ow c a b r x d.val) ∗ prog (cG P c) (wB c kAS) d.val)
      ⊢ iprop((iprop(owed (F := F) c (ow c a b r x (d.val + 1)) ∗ prog (cG P c) (wB c kAS) (d.val + 1)) -∗ wpc c (k ⟨⟩) Q)
          -∗ wpc c (.op (.enqueueDma src (.remote (Dev.tc n : Thread nD τ) dst sS hsc) sem hsrc hdst hsem) k) Q) := by
  obtain rfl : n = pA d c := Fin.ext hn
  subst hs hd
  iintro ⟨#HR, HO, HP⟩ Hk
  ihave HP' := (prog_step (F := F) (cG P c) (wB c kAS) d) $$ HP
  icases HP' with ⟨HA, HP⟩
  unfold cG
  icases HA with ⟨Ha, Ht₁, Ht₂, Hs, Hd⟩
  iapply (wp_copy P K c (pA d c) (kAS d) (kAR d) hsS hsem' (by rw [hsem']; rfl) (PosShare.pieces 7 fullShare d) (bsum P c)
    (ow c a b r x (d.val + 1)) (ow_g c d a b r x) (BI.Entails.refl _)
    (by
      show _ ⊢ holds (pA d c) (seg (qx d (qa (pA d c)))) fullShare (bsum P (pA d (pA d c)))
      rw [pA_pA, qa_pA, qx_qx])) $$ [HO Ht₁ Ht₂ Hs Hd]
  · isplitr; · iexact HR
    isplitl [HO]; · iexact HO
    isplitl [Ht₁]; · iexact Ht₁
    isplitl [Ht₂]; · iexact Ht₂
    isplitl [Hs] <;> iassumption
  iintro ⟨HO, Hc⟩
  iapply Hk
  isplitl [HO]; · iexact HO
  iapply HP; unfold wB
  isplitl [Hc] <;> iassumption

end Copy

/-! ## Closing the cells -/

/-- A cell whose round is over gives its counter back at zero. -/
theorem close_cell (k : Slot) : iprop(recs P K ∗ atPos ER (cell c k) 1 ∅ 0) ⊢ |={Set.univ}=> (semVal (cell c k) 0 : sProp 𝕄) :=
  (sep_mono_left (recs_inv P K c k)).trans (Rounds.cell_close ER (rd P) (Set.mem_univ (K (c, k))) (fun h => h) (R := 1) (duties_later P (cell c k)))

end Cert.GatedMlp

end
-- ==== Proof.Bufs.lean ====
/-
# `Bufs`: loads and stores through whole buffers and slices, and how the buffers come apart and together

The bf16 buffer is cut into its eight segments, each landing buffer into its slots.
-/
module

public import proofs.«01_k».proof.Proof.Steps

@[expose] public section

noncomputable section

namespace Cert.GatedMlp

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` holds `M` at contents `X`. -/
abbrev has (c : Dev nD) {sh : Shape} {e : EltTy} (M : Memref sig .tc .vmem sh e) (q : PosShare TreeShare) (X : Vec F sh e) : sProp 𝕄 :=
  owns (Ix := Unit) (Name := ℕ) (U := UU) (Lvl := ℕ) (c : Thread nD τ) M q X

variable (c : Dev nD)

/-! ## Accesses -/

section Access
variable {α : Type} {Q : α → sProp (MT nD τ sig Unit (Elt F) ℕ UU ℕ)}

/-- A load through a rectangle reads what the slice holds. -/
theorem wp_load_slice {sh : Shape} {e : EltTy} (m : Memref sig .tc .vmem sh e) (r : Rect sh) (hr : ∀ a, r.stride a = 1) {hl : m.view.LoadsAt r.toLoadRect}
    {k : (r.shape.Idx → Elt F e) → Prog (TpuEff nD τ sig (Elt F) Λ₀ .tc) α} (q : PosShare TreeShare) (X : Vec F r.shape e) :
    (has c (m.slice r hr) q X) ⊢ iprop((has c (m.slice r hr) q X -∗ wpc c (k X) Q) -∗ wpc c (.op (.load m r.toLoadRect hl) k) Q) := by
  unfold has owns
  iintro ⟨%f, %hf, H⟩ Hk
  iapply (wp_load_rect (m := m) (r := r) (hl := hl) (k := k) 𝒱₀ (c : Thread nD τ) none Set.univ (S := (m.access r).set) (f := f) (q := q) (le_refl _)) $$ H
  iintro H
  rw [show (m.access r).read (Elt F) f = X from hf]
  iapply Hk; iexists f; isplitr
  · ipureintro; exact hf
  · iexact H

/-- A store through a rectangle replaces what the slice holds. -/
theorem wp_store_slice {sh : Shape} {e : EltTy} (m : Memref sig .tc .vmem sh e) (r : Rect sh) (hr : ∀ a, r.stride a = 1) {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (X : Vec F r.shape e) :
    (has c (m.slice r hr) fullShare X) ⊢ iprop((has c (m.slice r hr) fullShare w -∗ wpc c (k ⟨⟩) Q) -∗ wpc c (.op (.store m r w Finset.univ hx hm) k) Q) := by
  unfold has owns
  iintro ⟨%f, -, H⟩ Hk
  iapply (wp_store (m := m) (r := r) (w := w) (hx := hx) (hm := hm) (k := k) 𝒱₀ (c : Thread nD τ) none Set.univ (S := (m.access r).set) (f := f) (le_refl _)) $$ H
  iintro H
  iapply Hk; iexists _; isplitr
  rotate_left
  · iexact H
  · ipureintro; exact View.read_write_univ _ _

/-- The rectangle of everything moves nothing. -/
theorem full_emb {sh : Shape} {off : Fin sh.rank → ℕ} (inb : ∀ a, off a + sh.size a ≤ sh.size a) (j : (Rect.unit off sh.size inb).shape.Idx) :
    (Rect.unit off sh.size inb).emb j = j := by
  funext a
  refine Fin.ext ?_
  have h := inb a
  show off a + 1 * (j a).val = (j a).val
  omega

/-- A load of everything. -/
theorem wp_load_all {sh : Shape} {e : EltTy} (m : Memref sig .tc .vmem sh e) {off : Fin sh.rank → ℕ} {inb : ∀ a, off a + sh.size a ≤ sh.size a}
    {hl : m.view.LoadsAt (Rect.unit off sh.size inb).toLoadRect} {k : (sh.Idx → Elt F e) → Prog (TpuEff nD τ sig (Elt F) Λ₀ .tc) α} (q : PosShare TreeShare) (X : Vec F sh e) :
    (has c m q X) ⊢ iprop((has c m q X -∗ wpc c (k X) Q) -∗ wpc c (.op (.load m (Rect.unit off sh.size inb).toLoadRect hl) k) Q) := by
  unfold has owns
  iintro ⟨%f, %hf, H⟩ Hk
  iapply (wp_load_rect (m := m) (r := Rect.unit off sh.size inb) (hl := hl) (k := k) 𝒱₀ (c : Thread nD τ) none Set.univ (S := m.view.set) (f := f) (q := q) (View.set_slice_subset _ _)) $$ H
  iintro H
  rw [show (m.access (Rect.unit off sh.size inb)).read (Elt F) f = X from by
    funext j
    show m.view.read (Elt F) f ((Rect.unit off sh.size inb).emb j) = X j
    rw [full_emb, hf]]
  iapply Hk; iexists f; isplitr
  · ipureintro; exact hf
  · iexact H

/-- A store over everything. -/
theorem wp_store_all {sh : Shape} {e : EltTy} (m : Memref sig .tc .vmem sh e) {off : Fin sh.rank → ℕ} {inb : ∀ a, off a + sh.size a ≤ sh.size a}
    {w : sh.Idx → Elt F e} {hx : (m.access (Rect.unit off sh.size inb)).Stores Finset.univ}
    {hm : (Finset.univ : Finset (Rect.unit off sh.size inb).shape.Idx) = Finset.univ ∨ ∀ a, (Rect.unit off sh.size inb).stride a = 1}
    {k : PUnit → Prog (TpuEff nD τ sig (Elt F) Λ₀ .tc) α} (X : Vec F sh e) :
    (has c m fullShare X) ⊢ iprop((has c m fullShare w -∗ wpc c (k ⟨⟩) Q) -∗ wpc c (.op (.store m (Rect.unit off sh.size inb) w Finset.univ hx hm) k) Q) := by
  unfold has owns
  iintro ⟨%f, -, H⟩ Hk
  iapply (wp_store (m := m) (r := Rect.unit off sh.size inb) (w := w) (hx := hx) (hm := hm) (k := k) 𝒱₀ (c : Thread nD τ) none Set.univ (S := m.view.set) (f := f) (View.set_slice_subset _ _)) $$ H
  iintro H
  iapply Hk; iexists _; isplitr
  rotate_left
  · iexact H
  · ipureintro
    funext j
    have h := congrFun (View.read_write_univ (v := m.access (Rect.unit off sh.size inb)) (Val := Elt F) f w) j
    have h2 : m.view.read (Elt F) ((m.access (Rect.unit off sh.size inb)).write (Elt F) f w Finset.univ) ((Rect.unit off sh.size inb).emb j) = w j := h
    rw [full_emb] at h2; exact h2

/-- A load of a segment printed at an offset that comes to it. -/
theorem wp_load_seg {off : Fin 2 → ℕ} {s : Fin 8} (hoff : off = ![64 * s.val, 0]) {inb : ∀ a, off a + S64x512.size a ≤ S512x512.size a}
    {hl : commM.view.LoadsAt (Rect.unit (s := S512x512) off S64x512.size inb).toLoadRect}
    {k : (S64x512.Idx → Elt F .bf16) → Prog (TpuEff nD τ sig (Elt F) Λ₀ .tc) α} (q : PosShare TreeShare) (X : Vec F S64x512 .bf16) :
    (has c (seg s) q X) ⊢ iprop((has c (seg s) q X -∗ wpc c (k X) Q) -∗ wpc c (.op (.load commM (Rect.unit (s := S512x512) off S64x512.size inb).toLoadRect hl) k) Q) := by
  subst hoff
  exact wp_load_slice (k := k) c commM (segR s) (fun _ => rfl) q X
/-- A store over such a segment. -/
theorem wp_store_seg {off : Fin 2 → ℕ} {s : Fin 8} (hoff : off = ![64 * s.val, 0]) {inb : ∀ a, off a + S64x512.size a ≤ S512x512.size a}
    {w : S64x512.Idx → Elt F .bf16} {hx : (commM.access (Rect.unit (s := S512x512) off S64x512.size inb)).Stores Finset.univ}
    {hm : (Finset.univ : Finset (Rect.unit (s := S512x512) off S64x512.size inb).shape.Idx) = Finset.univ ∨ ∀ a, (Rect.unit (s := S512x512) off S64x512.size inb).stride a = 1}
    {k : PUnit → Prog (TpuEff nD τ sig (Elt F) Λ₀ .tc) α} (X : Vec F S64x512 .bf16) :
    (has c (seg s) fullShare X) ⊢ iprop((has c (seg s) fullShare w -∗ wpc c (k ⟨⟩) Q)
      -∗ wpc c (.op (.store commM (Rect.unit (s := S512x512) off S64x512.size inb) w Finset.univ hx hm) k) Q) := by
  subst hoff
  exact wp_store_slice (k := k) c commM (segR s) (fun _ => rfl) X

end Access

/-! ## Slots -/

/-- Holding a squeezed memref is holding the memref, at the contents with the axis of size one put back. -/
theorem has_squeeze (M : Memref sig .tc .vmem S1x64x512 .bf16) (q : PosShare TreeShare) (X : Vec F S64x512 .bf16) :
    has c (M.squeeze S64x512 squeezes_S1x64x512_S64x512) q X = has c M q (lift X) := by
  have hread (f : M.view.ty.Contents (Elt F)) : Iff ((M.squeeze S64x512 squeezes_S1x64x512_S64x512).view.read (Elt F) f = X) (M.view.read (Elt F) f = lift X) := by
    constructor
    · intro h
      subst h
      funext i
      show M.view.read (Elt F) f i = M.view.read (Elt F) f (Shape.reshapeEquiv squeezes_S1x64x512_S64x512.numel_eq (Shape.reshapeEquiv squeezes_S1x64x512_S64x512.numel_eq.symm i))
      rw [Shape.reshapeEquiv_reshapeEquiv, Shape.reshapeEquiv_self]
    · intro h
      funext i
      show M.view.read (Elt F) f (Shape.reshapeEquiv squeezes_S1x64x512_S64x512.numel_eq i) = X i
      rw [h]
      show X (Shape.reshapeEquiv squeezes_S1x64x512_S64x512.numel_eq.symm (Shape.reshapeEquiv squeezes_S1x64x512_S64x512.numel_eq i)) = X i
      rw [Shape.reshapeEquiv_reshapeEquiv, Shape.reshapeEquiv_self]
  unfold has owns
  have hset : (M.squeeze S64x512 squeezes_S1x64x512_S64x512).view.set = M.view.set := View.set_reshape _ _
  congr 1
  funext f
  rw [propext (hread f), hset]

/-- The opposite of `lift`. -/
def drop (X : Vec F S1x64x512 .bf16) : Vec F S64x512 .bf16 := fun i => X (Shape.reshapeEquiv squeezes_S1x64x512_S64x512.numel_eq i)
omit [FloatOps F] in
theorem lift_drop (X : Vec F S1x64x512 .bf16) : lift (drop X) = X := by
  funext i; unfold lift drop; rw [Shape.reshapeEquiv_reshapeEquiv, Shape.reshapeEquiv_self]

/-- A slot in any state, squeezed or not. -/
theorem any_squeeze (M : Memref sig .tc .vmem S1x64x512 .bf16) (q : PosShare TreeShare) :
    iprop(∃ X, has (F := F) c M q X) ⊢ iprop(∃ X, has (F := F) c (M.squeeze S64x512 squeezes_S1x64x512_S64x512) q X) := by
  iintro ⟨%X, H⟩
  iexists drop X
  rw [has_squeeze, lift_drop]; iexact H
theorem squeeze_any (M : Memref sig .tc .vmem S1x64x512 .bf16) (q : PosShare TreeShare) :
    iprop(∃ X, has (F := F) c (M.squeeze S64x512 squeezes_S1x64x512_S64x512) q X) ⊢ iprop(∃ X, has (F := F) c M q X) := by
  iintro ⟨%X, H⟩
  iexists lift X
  iapply (Entails.of_eq (has_squeeze c M q X)); iexact H

section Slot
variable {α : Type} {Q : α → sProp (MT nD τ sig Unit (Elt F) ℕ UU ℕ)}

/-- A load of slot `d` of the first landing buffer. -/
theorem wp_load_slA (d : Fin 7) {off : Fin 3 → ℕ} (hoff : off = ![d.val, 0, 0]) {inb : ∀ a, off a + S1x64x512.size a ≤ S7x64x512.size a}
    {hl : rAM.view.LoadsAt (Rect.unit (s := S7x64x512) off S1x64x512.size inb).toLoadRect}
    {k : (S1x64x512.Idx → Elt F .bf16) → Prog (TpuEff nD τ sig (Elt F) Λ₀ .tc) α} (q : PosShare TreeShare) (X : Vec F S64x512 .bf16) :
    (has c (slA d) q X) ⊢ iprop((has c (slA d) q X -∗ wpc c (k (lift X)) Q)
      -∗ wpc c (.op (.load rAM (Rect.unit (s := S7x64x512) off S1x64x512.size inb).toLoadRect hl) k) Q) := by
  subst hoff
  unfold slA
  rw [has_squeeze]
  exact wp_load_slice (k := k) c rAM (rectA d) (fun _ => rfl) q (lift X)
/-- A load of slot `e` of the second. -/
theorem wp_load_slB (e : Fin 3) {off : Fin 3 → ℕ} (hoff : off = ![e.val, 0, 0]) {inb : ∀ a, off a + S1x64x512.size a ≤ S3x64x512.size a}
    {hl : rBM.view.LoadsAt (Rect.unit (s := S3x64x512) off S1x64x512.size inb).toLoadRect}
    {k : (S1x64x512.Idx → Elt F .bf16) → Prog (TpuEff nD τ sig (Elt F) Λ₀ .tc) α} (q : PosShare TreeShare) (X : Vec F S64x512 .bf16) :
    (has c (slB e) q X) ⊢ iprop((has c (slB e) q X -∗ wpc c (k (lift X)) Q)
      -∗ wpc c (.op (.load rBM (Rect.unit (s := S3x64x512) off S1x64x512.size inb).toLoadRect hl) k) Q) := by
  subst hoff
  unfold slB
  rw [has_squeeze]
  exact wp_load_slice (k := k) c rBM (rectB e) (fun _ => rfl) q (lift X)

end Slot

/-! ## Apart and together -/

theorem seg_disj (s t : Fin 8) (h : s ≠ t) : Disjoint (segR s).set (segR t).set := by
  rw [Finset.disjoint_left]
  intro i hi hj
  rw [Rect.mem_set_unit] at hi hj
  have h0 := hi 0; have h1 := hj 0
  apply h; apply Fin.ext
  have a1 : 64 * s.val ≤ (i 0).val ∧ (i 0).val < 64 * s.val + 64 := h0
  have a2 : 64 * t.val ≤ (i 0).val ∧ (i 0).val < 64 * t.val + 64 := h1
  omega
theorem seg_cov : (Finset.univ.biUnion fun s : Fin 8 => (segR s).set) = Finset.univ := by
  ext i
  simp only [Finset.mem_biUnion, Finset.mem_univ, true_and, iff_true]
  have h0 : (i 0).val < 512 := (i 0).isLt
  refine ⟨segOf i, (Rect.mem_set_unit ..).mpr fun a => ?_⟩
  match a with
  | ⟨0, _⟩ => show 64 * ((i 0).val / 64) ≤ (i 0).val ∧ (i 0).val < 64 * ((i 0).val / 64) + 64; omega
  | ⟨1, _⟩ => exact ⟨Nat.zero_le _, by show (i 1).val < 0 + 512; have : (i 1).val < 512 := (i 1).isLt; omega⟩

theorem slotA_disj (s t : Fin 7) (h : s ≠ t) : Disjoint (rectA s).set (rectA t).set := by
  rw [Finset.disjoint_left]
  intro i hi hj
  rw [Rect.mem_set_unit] at hi hj
  have h0 := hi 0; have h1 := hj 0
  apply h; apply Fin.ext
  have a1 : s.val ≤ (i 0).val ∧ (i 0).val < s.val + 1 := h0
  have a2 : t.val ≤ (i 0).val ∧ (i 0).val < t.val + 1 := h1
  omega
theorem slotA_cov : (Finset.univ.biUnion fun s : Fin 7 => (rectA s).set) = Finset.univ := by
  ext i
  simp only [Finset.mem_biUnion, Finset.mem_univ, true_and, iff_true]
  refine ⟨⟨(i 0).val, (i 0).isLt⟩, (Rect.mem_set_unit ..).mpr fun a => ?_⟩
  match a with
  | ⟨0, _⟩ => show (i 0).val ≤ (i 0).val ∧ (i 0).val < (i 0).val + 1; omega
  | ⟨1, _⟩ => exact ⟨Nat.zero_le _, by show (i 1).val < 0 + 64; have : (i 1).val < 64 := (i 1).isLt; omega⟩
  | ⟨2, _⟩ => exact ⟨Nat.zero_le _, by show (i 2).val < 0 + 512; have : (i 2).val < 512 := (i 2).isLt; omega⟩
theorem slotB_disj (s t : Fin 3) (h : s ≠ t) : Disjoint (rectB s).set (rectB t).set := by
  rw [Finset.disjoint_left]
  intro i hi hj
  rw [Rect.mem_set_unit] at hi hj
  have h0 := hi 0; have h1 := hj 0
  apply h; apply Fin.ext
  have a1 : s.val ≤ (i 0).val ∧ (i 0).val < s.val + 1 := h0
  have a2 : t.val ≤ (i 0).val ∧ (i 0).val < t.val + 1 := h1
  omega
theorem slotB_cov : (Finset.univ.biUnion fun s : Fin 3 => (rectB s).set) = Finset.univ := by
  ext i
  simp only [Finset.mem_biUnion, Finset.mem_univ, true_and, iff_true]
  refine ⟨⟨(i 0).val, (i 0).isLt⟩, (Rect.mem_set_unit ..).mpr fun a => ?_⟩
  match a with
  | ⟨0, _⟩ => show (i 0).val ≤ (i 0).val ∧ (i 0).val < (i 0).val + 1; omega
  | ⟨1, _⟩ => exact ⟨Nat.zero_le _, by show (i 1).val < 0 + 64; have : (i 1).val < 64 := (i 1).isLt; omega⟩
  | ⟨2, _⟩ => exact ⟨Nat.zero_le _, by show (i 2).val < 0 + 512; have : (i 2).val < 512 := (i 2).isLt; omega⟩

/-- Over all segments: `c`'s own and the seven others. -/
theorem segs_own (Φ : Fin 8 → sProp 𝕄) (s : Fin 8) : bigSep Finset.univ Φ = iprop(Φ s ∗ bigSep Finset.univ fun d : Fin 7 => Φ (qx d s)) := by
  rw [univ_segs s, bigSep_insert (by
    simp only [Finset.mem_map, Finset.mem_univ, true_and, Function.Embedding.coeFn_mk, not_exists]
    exact fun d h => qx_ne d s h), bigSep_map]
  rfl

/-- The bf16 buffer comes apart into its segments, `c`'s own first, -/
theorem comm_split (X : Vec F S512x512 .bf16) :
    (has c commM fullShare X) ⊢ iprop(has c (seg (qa c)) fullShare (fun j => X ((segR (qa c)).emb j))
      ∗ bigSep Finset.univ fun d : Fin 7 => has c (seg (qx d (qa c))) fullShare (fun j => X ((segR (qx d (qa c))).emb j))) := by
  rw [← segs_own (fun s => has c (seg s) fullShare (fun j => X ((segR s).emb j))) (qa c)]
  exact owns_rects (c : Thread nD τ) commM fullShare segR (fun _ _ => rfl) seg_disj seg_cov X
/-- and together again. -/
theorem comm_join (X : Vec F S512x512 .bf16) :
    iprop(has c (seg (qa c)) fullShare (fun j => X ((segR (qa c)).emb j))
      ∗ bigSep Finset.univ fun d : Fin 7 => has c (seg (qx d (qa c))) fullShare (fun j => X ((segR (qx d (qa c))).emb j))) ⊢ (has c commM fullShare X) := by
  rw [← segs_own (fun s => has c (seg s) fullShare (fun j => X ((segR s).emb j))) (qa c)]
  exact owns_of_rects (c : Thread nD τ) commM fullShare segR (fun _ _ => rfl) seg_disj seg_cov X

/-- The first landing buffer comes apart into its slots, -/
theorem recvA_split : iprop(∃ X, has (F := F) c rAM fullShare X) ⊢ bigSep Finset.univ fun d : Fin 7 => iprop(∃ X, has (F := F) c (slA d) fullShare X) := by
  iintro ⟨%X, H⟩
  ihave H := (owns_rects (c : Thread nD τ) rAM fullShare rectA (fun _ _ => rfl) slotA_disj slotA_cov X) $$ H
  iapply (show (bigSep Finset.univ fun d : Fin 7 => has c (slA' d) fullShare (fun j => X ((rectA d).emb j)))
      ⊢ bigSep Finset.univ fun d : Fin 7 => iprop(∃ X, has (F := F) c (slA d) fullShare X) from bigSep_mono fun d _ => by
    refine BI.Entails.trans ?_ (any_squeeze c (slA' d) fullShare)
    show has c (slA' d) fullShare (fun j => X ((rectA d).emb j)) ⊢ iprop(∃ X, has (F := F) c (slA' d) fullShare X)
    iintro H; iexists _; iexact H)
  iexact H
/-- as does the second, -/
theorem recvB_split : iprop(∃ X, has (F := F) c rBM fullShare X) ⊢ bigSep Finset.univ fun d : Fin 3 => iprop(∃ X, has (F := F) c (slB d) fullShare X) := by
  iintro ⟨%X, H⟩
  ihave H := (owns_rects (c : Thread nD τ) rBM fullShare rectB (fun _ _ => rfl) slotB_disj slotB_cov X) $$ H
  iapply (show (bigSep Finset.univ fun d : Fin 3 => has c (slB' d) fullShare (fun j => X ((rectB d).emb j)))
      ⊢ bigSep Finset.univ fun d : Fin 3 => iprop(∃ X, has (F := F) c (slB d) fullShare X) from bigSep_mono fun d _ => by
    refine BI.Entails.trans ?_ (any_squeeze c (slB' d) fullShare)
    show has c (slB' d) fullShare (fun j => X ((rectB d).emb j)) ⊢ iprop(∃ X, has (F := F) c (slB' d) fullShare X)
    iintro H; iexists _; iexact H)
  iexact H
/-- The place of a row in its slot. -/
def inSlotA (i : S7x64x512.Idx) : S1x64x512.Idx := ValueIdx.ix3 (n0 := 1) (n1 := 64) (n2 := 512) 0 ⟨(i 1).val, (i 1).isLt⟩ ⟨(i 2).val, (i 2).isLt⟩

set_option backward.proofsInPublic true in
omit [FloatOps F] in
theorem slotA_val (X : Fin 7 → Vec F S1x64x512 .bf16) (d : Fin 7) (j : (rectA d).shape.Idx) :
    X ⟨((rectA d).emb j 0).val, ((rectA d).emb j 0).isLt⟩ (inSlotA ((rectA d).emb j)) = X d j := by
  have h0 : (j 0).val < 1 := (j 0).isLt
  rw [show (⟨((rectA d).emb j 0).val, ((rectA d).emb j 0).isLt⟩ : Fin 7) = d from Fin.ext (by show d.val + 1 * (j 0).val = d.val; omega),
    show inSlotA ((rectA d).emb j) = j from by
      funext a
      refine Fin.ext ?_
      match a with
      | ⟨0, _⟩ => show 0 = (j 0).val; omega
      | ⟨1, _⟩ => show 0 + 1 * (j 1).val = (j 1).val; omega
      | ⟨2, _⟩ => show 0 + 1 * (j 2).val = (j 2).val; omega]

/-- The slots come together again. -/
theorem recvA_join : (bigSep Finset.univ fun d : Fin 7 => iprop(∃ X, has (F := F) c (slA d) fullShare X)) ⊢ iprop(∃ X, has (F := F) c rAM fullShare X) := by
  refine BI.Entails.trans (bigSep_mono (Ψ := fun d : Fin 7 => iprop(∃ X, has (F := F) c (slA' d) fullShare X)) fun d _ => squeeze_any c (slA' d) fullShare) ?_
  show (bigSep Finset.univ fun d : Fin 7 => iprop(∃ X, has (F := F) c (slA' d) fullShare X)) ⊢ _
  iintro H
  haveI : Nonempty (Vec F S1x64x512 .bf16) := ⟨fun _ => Classical.choice ((inferInstance : ∀ e, Nonempty (Elt F e)) .bf16)⟩
  ihave H := (bigSep_exists_pi Finset.univ (fun (d : Fin 7) (X : Vec F S1x64x512 .bf16) => has (F := F) c (slA' d) fullShare X)) $$ H
  icases H with ⟨%X, H⟩
  iexists (fun i => X ⟨(i 0).val, (i 0).isLt⟩ (inSlotA i))
  iapply (owns_of_rects (c : Thread nD τ) rAM fullShare rectA (fun _ _ => rfl) slotA_disj slotA_cov _)
  iapply (Entails.of_eq (show (bigSep Finset.univ fun d : Fin 7 => has c (slA' d) fullShare (X d))
      = bigSep Finset.univ fun d : Fin 7 => has c (slA' d) fullShare (fun j => X ⟨((rectA d).emb j 0).val, ((rectA d).emb j 0).isLt⟩ (inSlotA ((rectA d).emb j)))
      from bigSep_congr fun d _ => congrArg (has c (slA' d) fullShare) (funext fun j => (slotA_val X d j).symm)))
  iexact H

/-- The place of a row in its slot. -/
def inSlotB (i : S3x64x512.Idx) : S1x64x512.Idx := ValueIdx.ix3 (n0 := 1) (n1 := 64) (n2 := 512) 0 ⟨(i 1).val, (i 1).isLt⟩ ⟨(i 2).val, (i 2).isLt⟩

set_option backward.proofsInPublic true in
omit [FloatOps F] in
theorem slotB_val (X : Fin 3 → Vec F S1x64x512 .bf16) (d : Fin 3) (j : (rectB d).shape.Idx) :
    X ⟨((rectB d).emb j 0).val, ((rectB d).emb j 0).isLt⟩ (inSlotB ((rectB d).emb j)) = X d j := by
  have h0 : (j 0).val < 1 := (j 0).isLt
  rw [show (⟨((rectB d).emb j 0).val, ((rectB d).emb j 0).isLt⟩ : Fin 3) = d from Fin.ext (by show d.val + 1 * (j 0).val = d.val; omega),
    show inSlotB ((rectB d).emb j) = j from by
      funext a
      refine Fin.ext ?_
      match a with
      | ⟨0, _⟩ => show 0 = (j 0).val; omega
      | ⟨1, _⟩ => show 0 + 1 * (j 1).val = (j 1).val; omega
      | ⟨2, _⟩ => show 0 + 1 * (j 2).val = (j 2).val; omega]

/-- The slots come together again. -/
theorem recvB_join : (bigSep Finset.univ fun d : Fin 3 => iprop(∃ X, has (F := F) c (slB d) fullShare X)) ⊢ iprop(∃ X, has (F := F) c rBM fullShare X) := by
  refine BI.Entails.trans (bigSep_mono (Ψ := fun d : Fin 3 => iprop(∃ X, has (F := F) c (slB' d) fullShare X)) fun d _ => squeeze_any c (slB' d) fullShare) ?_
  show (bigSep Finset.univ fun d : Fin 3 => iprop(∃ X, has (F := F) c (slB' d) fullShare X)) ⊢ _
  iintro H
  haveI : Nonempty (Vec F S1x64x512 .bf16) := ⟨fun _ => Classical.choice ((inferInstance : ∀ e, Nonempty (Elt F e)) .bf16)⟩
  ihave H := (bigSep_exists_pi Finset.univ (fun (d : Fin 3) (X : Vec F S1x64x512 .bf16) => has (F := F) c (slB' d) fullShare X)) $$ H
  icases H with ⟨%X, H⟩
  iexists (fun i => X ⟨(i 0).val, (i 0).isLt⟩ (inSlotB i))
  iapply (owns_of_rects (c : Thread nD τ) rBM fullShare rectB (fun _ _ => rfl) slotB_disj slotB_cov _)
  iapply (Entails.of_eq (show (bigSep Finset.univ fun d : Fin 3 => has c (slB' d) fullShare (X d))
      = bigSep Finset.univ fun d : Fin 3 => has c (slB' d) fullShare (fun j => X ⟨((rectB d).emb j 0).val, ((rectB d).emb j 0).isLt⟩ (inSlotB ((rectB d).emb j)))
      from bigSep_congr fun d _ => congrArg (has c (slB' d) fullShare) (funext fun j => (slotB_val X d j).symm)))
  iexact H

end Cert.GatedMlp

end
-- ==== Proof.Phases.lean ====
/-
# `Phases`: what a device holds between the steps of the exchange, and from one phase to the next

`going` is a device in the middle of a family of signals or transfers, `waiting` one in the middle of a phase's waits. Between
two phases the families are regrouped: what the waits hand back becomes what the next transfers take.
-/
module

public import proofs.«01_k».proof.Proof.Bufs

@[expose] public section

noncomputable section

namespace Cert.GatedMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S512x512 .bf16) (K : Dev nD × Slot → ℕ) (c : Dev nD)

/-! ## States -/

/-- `n` members of a family are dealt with. -/
def going (O : ℕ → CellTallies nD τ sig Unit) {m : ℕ} (A B : Fin m → sProp 𝕄) (n : ℕ) : sProp 𝕄 :=
  iprop(recs P K ∗ owed c (O n) ∗ prog A B n)
/-- `i` of the first family of waits are over, and `j` of the second. -/
def waiting (O : CellTallies nD τ sig Unit) {m : ℕ} (k₁ k₂ : Fin m → OSlot) (i j : ℕ) : sProp 𝕄 :=
  iprop(recs P K ∗ owed c O ∗ prog (wB c k₁) (wA P c k₁) i ∗ prog (wB c k₂) (wA P c k₂) j)
/-- The waits on a family of semaphores are over. -/
def over {m : ℕ} (kf : Fin m → OSlot) : sProp 𝕄 := bigSep Finset.univ fun d => (atPos ER (cell c (.inr (kf d))) 1 ∅ 0 : sProp 𝕄)

/-- Signals to the A-partners, -/
abbrev inA : ℕ → sProp 𝕄 := going P K c (fun n => ow c n 0 0 0 0) (sA c) nil
/-- signals to the B-partners, -/
abbrev inB : ℕ → sProp 𝕄 := going P K c (fun n => ow c 7 n 0 0 0) (sB c) nil
/-- transfers of the first phase, -/
abbrev inR : ℕ → sProp 𝕄 := going P K c (fun n => ow c 7 3 n 0 0) (cR P c) (wB c kRS)
/-- of the second, -/
abbrev inX : ℕ → sProp 𝕄 := going P K c (fun n => ow c 7 3 7 n 0) (cX P c) (wB c kXS)
/-- of the third. -/
abbrev inG : ℕ → sProp 𝕄 := going P K c (fun n => ow c 7 3 7 3 n) (cG P c) (wB c kAS)
/-- Waits of the first phase, -/
abbrev wtR : ℕ → ℕ → sProp 𝕄 := waiting P K c (ow c 7 3 7 0 0) kRS kRR
/-- of the second, -/
abbrev wtX : ℕ → ℕ → sProp 𝕄 := waiting P K c (ow c 7 3 7 3 0) kXS kXR
/-- of the third. -/
abbrev wtG : ℕ → ℕ → sProp 𝕄 := waiting P K c (ow c 7 3 7 3 7) kAS kAR

/-! ## Steps -/

section Step
variable {α : Type} {Q : α → sProp (MT nD τ sig Unit (Elt F) ℕ UU ℕ)} {k : PUnit → Prog (TpuEff nD τ sig (Elt F) Λ₀ .tc) α}

theorem step_A (d : Fin 7) {n : Dev nD} (hn : n.val = (pA d c).val) {k' : ℕ} (hk : k' = 1) :
    inA P K c d.val ⊢ iprop((inA P K c (d.val + 1) -∗ wpc c (k ⟨⟩) Q) -∗ wpc c (.op (.semSignal (n : Thread nD τ) barS k') k) Q) := by
  unfold inA going
  iintro ⟨#Hr, HO, HP⟩ Hk
  iapply (wp_sigA P K c d hn hk 0 0 0 0) $$ [HO HP]
  · isplitr; · iexact Hr
    isplitl [HO]; · iexact HO
    iexact HP
  iintro ⟨HO, HP⟩
  iapply Hk
  isplitr; · iexact Hr
  isplitl [HO]; · iexact HO
  iexact HP

theorem step_B (e : Fin 3) {n : Dev nD} (hn : n.val = (pB e c).val) {k' : ℕ} (hk : k' = 1) :
    inB P K c e.val ⊢ iprop((inB P K c (e.val + 1) -∗ wpc c (k ⟨⟩) Q) -∗ wpc c (.op (.semSignal (n : Thread nD τ) barS k') k) Q) := by
  unfold inB going
  iintro ⟨#Hr, HO, HP⟩ Hk
  iapply (wp_sigB P K c e hn hk 7 0 0 0) $$ [HO HP]
  · isplitr; · iexact Hr
    isplitl [HO]; · iexact HO
    iexact HP
  iintro ⟨HO, HP⟩
  iapply Hk
  isplitr; · iexact Hr
  isplitl [HO]; · iexact HO
  iexact HP

section Dma
variable {src dst : Memref sig .tc .vmem S64x512 .bf16} {n : Dev nD} {sS sem : SemLoc sig}
    {hsc : (dst : Memref sig (Dev.tc n : Thread nD τ).2.kind .vmem S64x512 .bf16).view.ref.isScScratch = false}
    {hsrc : src.view.WordExact} {hdst : dst.view.WordExact} {hsem : DmaTarget.Typed .vmem sem (.remote (Dev.tc n : Thread nD τ) dst sS hsc)}

theorem step_R (d : Fin 7) (hs : src = seg (qx d (qa c))) (hd : dst = slA d) (hn : n.val = (pA d c).val)
    (hsS : sS = csem (.rs d)) (hsem' : sem = csem (.rr d)) :
    inR P K c d.val ⊢ iprop((inR P K c (d.val + 1) -∗ wpc c (k ⟨⟩) Q)
      -∗ wpc c (.op (.enqueueDma src (.remote (Dev.tc n : Thread nD τ) dst sS hsc) sem hsrc hdst hsem) k) Q) := by
  unfold inR going
  iintro ⟨#Hr, HO, HP⟩ Hk
  iapply (wp_copyR P K c d hs hd hn hsS hsem' 7 3 0 0) $$ [HO HP]
  · isplitr; · iexact Hr
    isplitl [HO]; · iexact HO
    iexact HP
  iintro ⟨HO, HP⟩
  iapply Hk
  isplitr; · iexact Hr
  isplitl [HO]; · iexact HO
  iexact HP

theorem step_X (e : Fin 3) (hs : src = seg (qa c)) (hd : dst = slB e) (hn : n.val = (pB e c).val)
    (hsS : sS = csem (.xs e)) (hsem' : sem = csem (.xr e)) :
    inX P K c e.val ⊢ iprop((inX P K c (e.val + 1) -∗ wpc c (k ⟨⟩) Q)
      -∗ wpc c (.op (.enqueueDma src (.remote (Dev.tc n : Thread nD τ) dst sS hsc) sem hsrc hdst hsem) k) Q) := by
  unfold inX going
  iintro ⟨#Hr, HO, HP⟩ Hk
  iapply (wp_copyX P K c e hs hd hn hsS hsem' 7 3 7 0) $$ [HO HP]
  · isplitr; · iexact Hr
    isplitl [HO]; · iexact HO
    iexact HP
  iintro ⟨HO, HP⟩
  iapply Hk
  isplitr; · iexact Hr
  isplitl [HO]; · iexact HO
  iexact HP

theorem step_G (d : Fin 7) (hs : src = seg (qa c)) (hd : dst = seg (qa c)) (hn : n.val = (pA d c).val)
    (hsS : sS = csem (.as d)) (hsem' : sem = csem (.ar d)) :
    inG P K c d.val ⊢ iprop((inG P K c (d.val + 1) -∗ wpc c (k ⟨⟩) Q)
      -∗ wpc c (.op (.enqueueDma src (.remote (Dev.tc n : Thread nD τ) dst sS hsc) sem hsrc hdst hsem) k) Q) := by
  unfold inG going
  iintro ⟨#Hr, HO, HP⟩ Hk
  iapply (wp_copyG P K c d hs hd hn hsS hsem' 7 3 7 3) $$ [HO HP]
  · isplitr; · iexact Hr
    isplitl [HO]; · iexact HO
    iexact HP
  iintro ⟨HO, HP⟩
  iapply Hk
  isplitr; · iexact Hr
  isplitl [HO]; · iexact HO
  iexact HP
end Dma

section Waits
variable {sp sp' : Space} {s s' : Shape} {e e' : EltTy} {sem : DmaSem sig}
    {src : Memref sig .tc sp' s' e'} {dst : Memref sig .tc sp s e} {hsrc : src.view.WordExact} {hdst : dst.view.WordExact}

/-- A wait of the first family, -/
theorem step_w1 {m : ℕ} (k₁ k₂ : Fin m → OSlot) (O : CellTallies nD τ sig Unit) (d : Fin m) (j : ℕ)
    (hs : SemLoc.dma sem = csem (.inr (k₁ d))) (hN : dst.view.dmaCredit = N) (hO : Above (lvl (.inr (k₁ d))) O) :
    waiting P K c O k₁ k₂ d.val j ⊢ iprop((waiting P K c O k₁ k₂ (d.val + 1) j -∗ wpc c (k ⟨⟩) Q)
      -∗ wpc c (.op (.waitDma2 sem src dst hsrc hdst) k) Q) := by
  unfold waiting
  iintro ⟨#Hr, HO, HP, HQ⟩ Hk
  iapply (wp_waitF P K c k₁ d hs hN O hO) $$ [HO HP]
  · isplitr; · iexact Hr
    isplitl [HO]; · iexact HO
    iexact HP
  iintro ⟨HO, HP⟩
  iapply Hk
  isplitr; · iexact Hr
  isplitl [HO]; · iexact HO
  isplitl [HP]; · iexact HP
  iexact HQ
/-- and of the second. -/
theorem step_w2 {m : ℕ} (k₁ k₂ : Fin m → OSlot) (O : CellTallies nD τ sig Unit) (d : Fin m) (i : ℕ)
    (hs : SemLoc.dma sem = csem (.inr (k₂ d))) (hN : dst.view.dmaCredit = N) (hO : Above (lvl (.inr (k₂ d))) O) :
    waiting P K c O k₁ k₂ i d.val ⊢ iprop((waiting P K c O k₁ k₂ i (d.val + 1) -∗ wpc c (k ⟨⟩) Q)
      -∗ wpc c (.op (.waitDma2 sem src dst hsrc hdst) k) Q) := by
  unfold waiting
  iintro ⟨#Hr, HO, HP, HQ⟩ Hk
  iapply (wp_waitF P K c k₂ d hs hN O hO) $$ [HO HQ]
  · isplitr; · iexact Hr
    isplitl [HO]; · iexact HO
    iexact HQ
  iintro ⟨HO, HQ⟩
  iapply Hk
  isplitr; · iexact Hr
  isplitl [HO]; · iexact HO
  isplitl [HP]; · iexact HP
  iexact HQ

end Waits

/-- The wait on the barrier. -/
theorem step_bar {k' : ℕ} (hk : k' = 10) :
    iprop(inB P K c 3 ∗ cred (tallyAt (cell c .bar) () 10) ∗ atPos ER (cell c .bar) 0 ∅ 0)
      ⊢ iprop((iprop(recs P K ∗ owed (F := F) c (ow c 7 3 0 0 0) ∗ atPos ER (cell c .bar) 1 ∅ 0
            ∗ (bigSep Finset.univ fun d : Fin 7 => iprop(∃ X, holds (F := F) (pA d c) (slA d) fullShare X))
            ∗ bigSep Finset.univ fun e : Fin 3 => iprop(∃ X, holds (F := F) (pB e c) (slB e) fullShare X)) -∗ wpc c (k ⟨⟩) Q)
          -∗ wpc c (.op (.semWait barS k') k) Q) := by
  unfold inB going
  iintro ⟨⟨#Hr, HO, -⟩, Hc, Ha⟩ Hk
  iapply (wp_waitBar P K c hk (ow c 7 3 0 0 0) (above_1 c 0 0 0)) $$ [HO Hc Ha]
  · isplitr; · iexact Hr
    isplitl [HO]; · iexact HO
    isplitl [Hc]; · iexact Hc
    iexact Ha
  iintro ⟨HO, Ha, HA, HB⟩
  iapply Hk
  isplitr; · iexact Hr
  isplitl [HO]; · iexact HO
  isplitl [Ha]; · iexact Ha
  isplitl [HA]; · iexact HA
  iexact HB

/-- A load from one slot of the first landing buffer, among the slots, -/
theorem step_loadA (d : Fin 7) {off : Fin 3 → ℕ} (hoff : off = ![d.val, 0, 0]) {inb : ∀ a, off a + S1x64x512.size a ≤ S7x64x512.size a}
    {hl : rAM.view.LoadsAt (Rect.unit (s := S7x64x512) off S1x64x512.size inb).toLoadRect}
    {k : (S1x64x512.Idx → Elt F .bf16) → Prog (TpuEff nD τ sig (Elt F) Λ₀ .tc) α} (Y : Fin 7 → Vec F S64x512 .bf16) :
    (bigSep Finset.univ fun d => has c (slA d) fullShare (Y d))
      ⊢ iprop(((bigSep Finset.univ fun d => has c (slA d) fullShare (Y d)) -∗ wpc c (k (lift (Y d))) Q)
      -∗ wpc c (.op (.load rAM (Rect.unit (s := S7x64x512) off S1x64x512.size inb).toLoadRect hl) k) Q) := by
  rw [bigSep_univ_at (fun d => has c (slA d) fullShare (Y d)) d]
  iintro ⟨H, HR⟩ Hk
  iapply (wp_load_slA c d hoff fullShare (Y d)) $$ H
  iintro H
  iapply Hk
  isplitl [H]; · iexact H
  iexact HR
/-- and of the second. -/
theorem step_loadB (e : Fin 3) {off : Fin 3 → ℕ} (hoff : off = ![e.val, 0, 0]) {inb : ∀ a, off a + S1x64x512.size a ≤ S3x64x512.size a}
    {hl : rBM.view.LoadsAt (Rect.unit (s := S3x64x512) off S1x64x512.size inb).toLoadRect}
    {k : (S1x64x512.Idx → Elt F .bf16) → Prog (TpuEff nD τ sig (Elt F) Λ₀ .tc) α} (Y : Fin 3 → Vec F S64x512 .bf16) :
    (bigSep Finset.univ fun d => has c (slB d) fullShare (Y d))
      ⊢ iprop(((bigSep Finset.univ fun d => has c (slB d) fullShare (Y d)) -∗ wpc c (k (lift (Y e))) Q)
      -∗ wpc c (.op (.load rBM (Rect.unit (s := S3x64x512) off S1x64x512.size inb).toLoadRect hl) k) Q) := by
  rw [bigSep_univ_at (fun d => has c (slB d) fullShare (Y d)) e]
  iintro ⟨H, HR⟩ Hk
  iapply (wp_load_slB c e hoff fullShare (Y e)) $$ H
  iintro H
  iapply Hk
  isplitl [H]; · iexact H
  iexact HR

end Step

/-! ## Between the phases -/

/-- The first phase's send cells at round 0 and the duties its transfers pay, -/
def eR : sProp 𝕄 := bigSep Finset.univ fun d : Fin 7 =>
  iprop(atPos ER (cell c (.rs d)) 0 ∅ 0 ∗ dutyTok ER (cell c (.rs d)) 0 (.inl 0) ∗ dutyTok ER (cell (pA d c) (.rr d)) 0 (.inl 0))
/-- the second's, -/
def eX : sProp 𝕄 := bigSep Finset.univ fun e : Fin 3 =>
  iprop(atPos ER (cell c (.xs e)) 0 ∅ 0 ∗ dutyTok ER (cell c (.xs e)) 0 (.inl 0) ∗ dutyTok ER (cell (pB e c) (.xr e)) 0 (.inl 0))
/-- the third's. -/
def eG : sProp 𝕄 := bigSep Finset.univ fun d : Fin 7 =>
  iprop(atPos ER (cell c (.as d)) 0 ∅ 0 ∗ dutyTok ER (cell c (.as d)) 0 (.inl 0) ∗ dutyTok ER (cell (pA d c) (.ar d)) 0 (.inl 0))

theorem regroup3 {m : ℕ} (A B C X Y : Fin m → sProp 𝕄) :
    iprop((bigSep Finset.univ fun d => iprop(A d ∗ B d ∗ C d)) ∗ bigSep Finset.univ X ∗ bigSep Finset.univ Y)
      ⊢ bigSep Finset.univ fun d => iprop(A d ∗ B d ∗ C d ∗ X d ∗ Y d) := by
  simp only [bigSep_sep']
  iintro ⟨⟨HA, HB, HC⟩, HX, HY⟩
  isplitl [HA]; · iexact HA
  isplitl [HB]; · iexact HB
  isplitl [HC]; · iexact HC
  isplitl [HX]; · iexact HX
  iexact HY

/-- The last signal to an A-partner is over: the B-partners' turn. -/
theorem A_to_B : iprop(inA P K c 7 ∗ bigSep Finset.univ (sB (F := F) c)) ⊢ inB P K c 0 := by
  unfold inA inB going
  rw [prog_zero]
  iintro ⟨⟨#Hr, HO, -⟩, HB⟩
  isplitr; · iexact Hr
  isplitl [HO]; · iexact HO
  iexact HB

/-- The first phase starts: every segment but the own one goes to its device. -/
theorem R_start : iprop(recs P K ∗ owed (F := F) c (ow c 7 3 0 0 0) ∗ eR (F := F) c ∗ has c commM fullShare (P c)
      ∗ (bigSep Finset.univ fun d : Fin 7 => iprop(∃ X, holds (F := F) (pA d c) (slA d) fullShare X)))
    ⊢ iprop(inR P K c 0 ∗ has c (seg (qa c)) fullShare (pseg P c (qa c))) := by
  unfold inR going eR
  rw [prog_zero]
  iintro ⟨#Hr, HO, HE, HC, HS⟩
  ihave HC := (comm_split c (P c)) $$ HC
  icases HC with ⟨Hown, HC⟩
  isplitr [Hown]
  · isplitr; · iexact Hr
    isplitl [HO]; · iexact HO
    have h := regroup3 (F := F) (fun d : Fin 7 => atPos ER (cell c (.rs d)) 0 ∅ 0) (fun d => dutyTok ER (cell c (.rs d)) 0 (.inl 0)) (fun d => dutyTok ER (cell (pA d c) (.rr d)) 0 (.inl 0))
      (fun d => holds c (seg (qx d (qa c))) fullShare (pseg P c (qx d (qa c)))) (fun d => iprop(∃ Y, holds (F := F) (pA d c) (slA d) fullShare Y))
    iapply h
    isplitl [HE]; · iexact HE
    isplitl [HC]; · iexact HC
    iexact HS
  · iexact Hown

/-- A family of transfers is under way: its waits start. -/
theorem R_waits : iprop(inR P K c 7 ∗ bigSep Finset.univ (wB (F := F) c kRR)) ⊢ wtR P K c 0 0 := by
  unfold inR wtR going waiting
  rw [prog_end, prog_zero, prog_zero]
  iintro ⟨⟨#Hr, HO, HA⟩, HB⟩
  isplitr; · iexact Hr
  isplitl [HO]; · iexact HO
  isplitl [HA]; · iexact HA
  iexact HB
theorem X_waits : iprop(inX P K c 3 ∗ bigSep Finset.univ (wB (F := F) c kXR)) ⊢ wtX P K c 0 0 := by
  unfold inX wtX going waiting
  rw [prog_end, prog_zero, prog_zero]
  iintro ⟨⟨#Hr, HO, HA⟩, HB⟩
  isplitr; · iexact Hr
  isplitl [HO]; · iexact HO
  isplitl [HA]; · iexact HA
  iexact HB
theorem G_waits : iprop(inG P K c 7 ∗ bigSep Finset.univ (wB (F := F) c kAR)) ⊢ wtG P K c 0 0 := by
  unfold inG wtG going waiting
  rw [prog_end, prog_zero, prog_zero]
  iintro ⟨⟨#Hr, HO, HA⟩, HB⟩
  isplitr; · iexact Hr
  isplitl [HO]; · iexact HO
  isplitl [HA]; · iexact HA
  iexact HB

/-- Waits over: the cells, and what they handed over. -/
theorem waited {m : ℕ} (kf : Fin m → OSlot) :
    prog (wB c kf) (wA P c kf) m ⊢ iprop(over (F := F) c kf ∗ bigSep Finset.univ fun d => pay P c (.inr (kf d)) (.inl 0)) := by
  rw [prog_end]
  unfold wA over
  rw [bigSep_sep']

/-- After the first phase: the partners' parts of the own segment are here, and the partners' segments of that number are handed over. -/
theorem R_end : wtR P K c 7 7 ⊢ iprop(recs P K ∗ owed (F := F) c (ow c 7 3 7 0 0) ∗ over (F := F) c kRS ∗ over (F := F) c kRR
      ∗ (bigSep Finset.univ fun d : Fin 7 => has c (slA d) fullShare (pseg P (pA d c) (qa c)))
      ∗ (bigSep Finset.univ fun d : Fin 7 => iprop(∃ X, holds (F := F) (pA d c) (seg (qa c)) fullShare X))) := by
  unfold wtR waiting
  iintro ⟨#Hr, HO, HA, HB⟩
  ihave HA := (waited P c kRS) $$ HA
  icases HA with ⟨HA, -⟩
  ihave HB := (waited P c kRR) $$ HB
  icases HB with ⟨HB, HP⟩
  isplitr; · iexact Hr
  isplitl [HO]; · iexact HO
  isplitl [HA]; · iexact HA
  isplitl [HB]; · iexact HB
  have h := bigSep_sep' Finset.univ (fun d : Fin 7 => has c (slA d) fullShare (pseg P (pA d c) (qa c)))
    (fun d : Fin 7 => iprop(∃ X, holds (F := F) (pA d c) (seg (qa c)) fullShare X))
  iapply (Entails.of_eq h)
  iexact HP

/-- A share of a segment cut into `n` pieces, -/
theorem cut (n : ℕ) (hn : 0 < n) (s : Fin 8) (X : Vec F S64x512 .bf16) :
    (has c (seg s) fullShare X) ⊢ bigSep Finset.univ fun j : Fin n => has c (seg s) (PosShare.pieces n fullShare j) X := by
  have h := ownsSat_pieces (Ix := Unit) (Name := ℕ) (U := UU) (Lvl := ℕ) (c : Thread nD τ) (seg s) (fun Y => Y = X) n hn fullShare
  exact h.1
/-- and put together. -/
theorem glue (n : ℕ) (hn : 0 < n) (s : Fin 8) (X : Vec F S64x512 .bf16) :
    (bigSep Finset.univ fun j : Fin n => has c (seg s) (PosShare.pieces n fullShare j) X) ⊢ (has c (seg s) fullShare X) := by
  have h := ownsSat_pieces (Ix := Unit) (Name := ℕ) (U := UU) (Lvl := ℕ) (c : Thread nD τ) (seg s) (fun Y => Y = X) n hn fullShare
  exact h.2

/-- The second phase starts: the group's sum goes to the B-partners. -/
theorem X_start : iprop(recs P K ∗ owed (F := F) c (ow c 7 3 7 0 0) ∗ eX (F := F) c ∗ has c (seg (qa c)) fullShare (asum P c)
      ∗ (bigSep Finset.univ fun e : Fin 3 => iprop(∃ X, holds (F := F) (pB e c) (slB e) fullShare X)))
    ⊢ inX P K c 0 := by
  unfold inX going eX
  rw [prog_zero]
  iintro ⟨#Hr, HO, HE, HC, HS⟩
  ihave HC := (cut c 3 (by decide) (qa c) (asum P c)) $$ HC
  isplitr; · iexact Hr
  isplitl [HO]; · iexact HO
  have h := regroup3 (F := F) (fun e : Fin 3 => atPos ER (cell c (.xs e)) 0 ∅ 0) (fun e => dutyTok ER (cell c (.xs e)) 0 (.inl 0)) (fun e => dutyTok ER (cell (pB e c) (.xr e)) 0 (.inl 0))
    (fun e => holds c (seg (qa c)) (PosShare.pieces 3 fullShare e) (asum P c)) (fun e => iprop(∃ Y, holds (F := F) (pB e c) (slB e) fullShare Y))
  iapply h
  isplitl [HE]; · iexact HE
  isplitl [HC]; · iexact HC
  iexact HS

/-- After the second phase: the B-partners' sums are here, and the own one is whole again. -/
theorem X_end : wtX P K c 3 3 ⊢ iprop(recs P K ∗ owed (F := F) c (ow c 7 3 7 3 0) ∗ over (F := F) c kXS ∗ over (F := F) c kXR
      ∗ has c (seg (qa c)) fullShare (asum P c)
      ∗ (bigSep Finset.univ fun e : Fin 3 => has c (slB e) fullShare (asum P (pB e c)))) := by
  unfold wtX waiting
  iintro ⟨#Hr, HO, HA, HB⟩
  ihave HA := (waited P c kXS) $$ HA
  icases HA with ⟨HA, HC⟩
  ihave HB := (waited P c kXR) $$ HB
  icases HB with ⟨HB, HP⟩
  isplitr; · iexact Hr
  isplitl [HO]; · iexact HO
  isplitl [HA]; · iexact HA
  isplitl [HB]; · iexact HB
  isplitl [HC]
  · iapply (glue c 3 (by decide) (qa c) (asum P c)); iexact HC
  · iexact HP

/-- The third phase starts: the sum over all devices goes to the A-partners. -/
theorem G_start : iprop(recs P K ∗ owed (F := F) c (ow c 7 3 7 3 0) ∗ eG (F := F) c ∗ has c (seg (qa c)) fullShare (bsum P c)
      ∗ (bigSep Finset.univ fun d : Fin 7 => iprop(∃ X, holds (F := F) (pA d c) (seg (qa c)) fullShare X)))
    ⊢ inG P K c 0 := by
  unfold inG going eG
  rw [prog_zero]
  iintro ⟨#Hr, HO, HE, HC, HS⟩
  ihave HC := (cut c 7 (by decide) (qa c) (bsum P c)) $$ HC
  isplitr; · iexact Hr
  isplitl [HO]; · iexact HO
  have h := regroup3 (F := F) (fun d : Fin 7 => atPos ER (cell c (.as d)) 0 ∅ 0) (fun d => dutyTok ER (cell c (.as d)) 0 (.inl 0)) (fun d => dutyTok ER (cell (pA d c) (.ar d)) 0 (.inl 0))
    (fun d => holds c (seg (qa c)) (PosShare.pieces 7 fullShare d) (bsum P c)) (fun d => iprop(∃ Y, holds (F := F) (pA d c) (seg (qa c)) fullShare Y))
  iapply h
  isplitl [HE]; · iexact HE
  isplitl [HC]; · iexact HC
  iexact HS

/-- After the third phase: every segment is here. -/
theorem G_end : wtG P K c 7 7 ⊢ iprop(recs P K ∗ owed (F := F) c (ow c 7 3 7 3 7) ∗ over (F := F) c kAS ∗ over (F := F) c kAR
      ∗ has c commM fullShare (fin P c)) := by
  unfold wtG waiting
  iintro ⟨#Hr, HO, HA, HB⟩
  ihave HA := (waited P c kAS) $$ HA
  icases HA with ⟨HA, HC⟩
  ihave HB := (waited P c kAR) $$ HB
  icases HB with ⟨HB, HP⟩
  isplitr; · iexact Hr
  isplitl [HO]; · iexact HO
  isplitl [HA]; · iexact HA
  isplitl [HB]; · iexact HB
  have e₀ : (fun j => fin P c ((segR (qa c)).emb j)) = bsum P c := (fin_seg P c (qa c)).trans (by rw [own_qa])
  have e₁ (d : Fin 7) : (fun j => fin P c ((segR (qx d (qa c))).emb j)) = bsum P (pA d c) := (fin_seg P c _).trans (by rw [own_qx])
  have h : iprop(has c (seg (qa c)) fullShare (bsum P c) ∗ bigSep Finset.univ fun d : Fin 7 => has c (seg (qx d (qa c))) fullShare (bsum P (pA d c)))
      ⊢ (has c commM fullShare (fin P c)) := by
    have h := comm_join c (fin P c)
    rw [show (fun d : Fin 7 => has c (seg (qx d (qa c))) fullShare (fun j => fin P c ((segR (qx d (qa c))).emb j)))
      = fun d : Fin 7 => has c (seg (qx d (qa c))) fullShare (bsum P (pA d c)) from funext fun d => congrArg _ (e₁ d)] at h
    rw [← e₀]; exact h
  iapply h
  isplitl [HC]
  · iapply (glue c 7 (by decide) (qa c) (bsum P c)); iexact HC
  · iexact HP

end Cert.GatedMlp

end
-- ==== Proof.Body.lean ====
/-
# `Body`: the kernel's body, part by part

Each theorem runs one part of the printed body from what the device holds before it to what it holds after it, at a symbolic
device `c` and over any float values.
-/
module

public import proofs.«01_k».proof.Proof.Phases
public import proofs.«01_k».proof.Proof.Gen.KernelIdeal.Skeleton

@[expose] public section

noncomputable section

namespace Cert.GatedMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Vec F S512x512 .bf16) (K : Dev nD × Slot → ℕ) (c : Dev nD)

theorem wpc_ret {α : Type} (a : α) (Q : α → sProp 𝕄) : Q a ⊢ wpc c (.ret a) Q := by
  unfold wpc; rw [wp_ret]; iintro H; imodintro; iexact H

/-- The printed source of a transfer of the first phase. -/
theorem src_R (d : Fin 7) (w : BitVec 32) (hw : w = BitVec.ofNat 32 (1 + d.val)) (inb : ∀ a, k0_off1 c w a + S64x512.size a ≤ S512x512.size a) :
    commM.slice (Rect.unit (s := S512x512) (k0_off1 c w) S64x512.size inb) (fun _ => rfl) = seg (qx d (qa c)) := by
  subst hw; exact seg_of_off (off1_eq c d) inb
/-- The printed source of a transfer of the other phases. -/
theorem src_own (inb : ∀ a, k0_off3 c a + S64x512.size a ≤ S512x512.size a) :
    commM.slice (Rect.unit (s := S512x512) (k0_off3 c) S64x512.size inb) (fun _ => rfl) = seg (qa c) := seg_of_off (off3_eq c) inb

/-- The credit of a wait whose printed destination is such a source. -/
theorem cr_R (w : BitVec 32) (inb : ∀ a, k0_off1 c w a + S64x512.size a ≤ S512x512.size a) :
    (commM.slice (Rect.unit (s := S512x512) (k0_off1 c w) S64x512.size inb) (fun _ => rfl)).view.dmaCredit = N := rfl
theorem cr_own (inb : ∀ a, k0_off3 c a + S64x512.size a ≤ S512x512.size a) :
    (commM.slice (Rect.unit (s := S512x512) (k0_off3 c) S64x512.size inb) (fun _ => rfl)).view.dmaCredit = N := rfl

variable (h0 : xM.IsWhole) (h1 : wgM.IsWhole) (h2 : wuM.IsWhole) (h3 : wdM.IsWhole) (h4 : outM.IsWhole)
  (h5 : commM.IsWhole) (h6 : rAM.IsWhole) (h7 : rBM.IsWhole)

theorem part1 (Q : (Σ' (d0 : Dev nD) (v2 : BitVec 32) (v3 : Sems sig S_), BitVec 32) → sProp 𝕄) :
    inA P K c 0
      ⊢ iprop((∀ v2, ∀ v23, inA P K c 6 -∗ Q ⟨c, v2, SemArray.scalar (sig.barrier 0 rfl), v23⟩)
        -∗ wpc c (k0_part1 (F := F) xM h0 wgM h1 wuM h2 wdM h3 outM h4 commM h5 rAM h6 rBM h7
            cc0_scratch3 cc0_scratch4 cc0_scratch5 cc0_scratch6 cc0_scratch7 cc0_scratch8) Q) := by
  rw [k0_part1_eq_skeleton]; unfold k0_part1_skel
  simp only [semSignalWord, semWaitWord, Prog.lift, Prog.bind_op, Prog.bind_ret, Prog.pure_eq_ret, wp_deviceId]
  iintro HS Hk
  iapply (step_A P K c 0 (devA0.1 c) rfl) $$ [HS]
  · iexact HS
  iintro HS
  iapply (step_A P K c 1 (devA0.2.1 c) rfl) $$ [HS]
  · iexact HS
  iintro HS
  iapply (step_A P K c 2 (devA0.2.2.1 c) rfl) $$ [HS]
  · iexact HS
  iintro HS
  iapply (step_A P K c 3 (devA0.2.2.2.1 c) rfl) $$ [HS]
  · iexact HS
  iintro HS
  iapply (step_A P K c 4 (devA0.2.2.2.2.1 c) rfl) $$ [HS]
  · iexact HS
  iintro HS
  iapply (step_A P K c 5 (devA0.2.2.2.2.2.1 c) rfl) $$ [HS]
  · iexact HS
  iintro HS
  iapply (wpc_ret c _ Q)
  iapply Hk
  iexact HS

theorem part2 (v2 v23 : BitVec 32) (xv : Vec F S512x512 .f32) (gv uv : Vec F S512x1024 .f32) (dv : Vec F S1024x512 .f32) (Q : FVec F S512x512 .bf16 → sProp 𝕄) :
    iprop(inA P K c 6 ∗ bigSep Finset.univ (sB (F := F) c) ∗ has c xM fullShare xv ∗ has c wgM fullShare gv ∗ has c wuM fullShare uv ∗ has c wdM fullShare dv)
      ⊢ iprop((iprop(inB P K c 3 ∗ has c xM fullShare xv ∗ has c wgM fullShare gv ∗ has c wuM fullShare uv ∗ has c wdM fullShare dv) -∗ Q (k0_pay2 xv gv uv dv))
        -∗ wpc c (k0_part2 (F := F) xM h0 wgM h1 wuM h2 wdM h3 outM h4 commM h5 rAM h6 rBM h7
            cc0_scratch3 cc0_scratch4 cc0_scratch5 cc0_scratch6 cc0_scratch7 cc0_scratch8 c v2 (SemArray.scalar (sig.barrier 0 rfl)) v23) Q) := by
  rw [k0_part2_eq_skeleton]; unfold k0_part2_skel
  simp only [semSignalWord, semWaitWord, Prog.lift, Prog.bind_op, Prog.bind_ret, Prog.pure_eq_ret, wp_deviceId]
  iintro ⟨HS, HB, H0, H1, H2, H3⟩ Hk
  iapply (step_A P K c 6 (devA0.2.2.2.2.2.2 c) rfl) $$ [HS]
  · iexact HS
  iintro HS
  ihave HS := (A_to_B P K c) $$ [HS HB]
  · isplitl [HS]; · iexact HS
    iexact HB
  iapply (step_B P K c 0 (devB0.1 c) rfl) $$ [HS]
  · iexact HS
  iintro HS
  iapply (step_B P K c 1 (devB0.2.1 c) rfl) $$ [HS]
  · iexact HS
  iintro HS
  iapply (step_B P K c 2 (devB0.2.2 c) rfl) $$ [HS]
  · iexact HS
  iintro HS
  iapply (wp_load_all c xM fullShare xv) $$ H0
  iintro H0
  iapply (wp_load_all c wgM fullShare gv) $$ H1
  iintro H1
  iapply (wp_load_all c wuM fullShare uv) $$ H2
  iintro H2
  iapply (wp_load_all c wdM fullShare dv) $$ H3
  iintro H3
  iapply (wpc_ret c _ Q)
  iapply Hk
  isplitl [HS]; · iexact HS
  isplitl [H0]; · iexact H0
  isplitl [H1]; · iexact H1
  isplitl [H2]; · iexact H2
  iexact H3

theorem part3 (v2 : BitVec 32) (w : FVec F S512x512 .bf16) (hw : k0_pay3 w = P c)
    (Q : (Σ' (v66 : BitVec 32) (v67 : BitVec 32) (v70 : BitVec 32), BitVec 32) → sProp 𝕄) :
    iprop(inB P K c 3 ∗ (∃ X, has (F := F) c commM fullShare X) ∗ cred (tallyAt (cell c .bar) () 10) ∗ atPos ER (cell c .bar) 0 ∅ 0 ∗ eR (F := F) c)
      ⊢ iprop((∀ a b d e, iprop(inR P K c 1 ∗ has c (seg (qa c)) fullShare (pseg P c (qa c)) ∗ atPos ER (cell c .bar) 1 ∅ 0
              ∗ bigSep Finset.univ fun e : Fin 3 => iprop(∃ X, holds (F := F) (pB e c) (slB e) fullShare X)) -∗ Q ⟨a, b, d, e⟩)
        -∗ wpc c (k0_part3 (F := F) xM h0 wgM h1 wuM h2 wdM h3 outM h4 commM h5 rAM h6 rBM h7
            cc0_scratch3 cc0_scratch4 cc0_scratch5 cc0_scratch6 cc0_scratch7 cc0_scratch8 c v2 (SemArray.scalar (sig.barrier 0 rfl)) w) Q) := by
  rw [k0_part3_eq_skeleton]; unfold k0_part3_skel
  simp only [semSignalWord, semWaitWord, Prog.lift, Prog.bind_op, Prog.bind_ret, Prog.pure_eq_ret, wp_deviceId]
  iintro ⟨HS, ⟨%X, HC⟩, Hc, Ha, HE⟩ Hk
  iapply (wp_load_all c commM fullShare X) $$ HC
  iintro HC
  iapply (wp_store_all c commM X) $$ HC
  iintro HC
  rw [hw]
  iapply (step_bar P K c rfl) $$ [HS Hc Ha]
  · isplitl [HS]; · iexact HS
    isplitl [Hc]; · iexact Hc
    iexact Ha
  iintro ⟨#Hr, HO, Ha, HA, HB⟩
  ihave HS := (R_start P K c) $$ [HO HE HC HA]
  · isplitr; · iexact Hr
    isplitl [HO]; · iexact HO
    isplitl [HE]; · iexact HE
    isplitl [HC]; · iexact HC
    iexact HA
  icases HS with ⟨HS, Hown⟩
  iapply (step_R P K c 0 (src_R c 0 1#32 rfl _) rfl (devA1.1 c) rfl rfl) $$ [HS]
  · iexact HS
  iintro HS
  iapply (wpc_ret c _ Q)
  iapply Hk
  isplitl [HS]; · iexact HS
  isplitl [Hown]; · iexact Hown
  isplitl [Ha]; · iexact Ha
  iexact HB

theorem part4 (v2 v66 v82 : BitVec 32)
    (Q : (Σ' (_ : BitVec 32), BitVec 32) → sProp 𝕄) :
    inR P K c 1
      ⊢ iprop((∀ a, ∀ b, inR P K c 3 -∗ Q ⟨a, b⟩)
        -∗ wpc c (k0_part4 (F := F) xM h0 wgM h1 wuM h2 wdM h3 outM h4 commM h5 rAM h6 rBM h7
            cc0_scratch3 cc0_scratch4 cc0_scratch5 cc0_scratch6 cc0_scratch7 cc0_scratch8 c v2 v66 v82) Q) := by
  rw [k0_part4_eq_skeleton]; unfold k0_part4_skel
  simp only [semSignalWord, semWaitWord, Prog.lift, Prog.bind_op, Prog.bind_ret, Prog.pure_eq_ret]
  iintro HS Hk
  iapply (step_R P K c 1 (src_R c 1 2#32 rfl _) rfl (devA1.2.1 c) rfl rfl) $$ [HS]
  · iexact HS
  iintro HS
  iapply (step_R P K c 2 (src_R c 2 3#32 rfl _) rfl (devA1.2.2.1 c) rfl rfl) $$ [HS]
  · iexact HS
  iintro HS
  iapply (wpc_ret c _ Q)
  iapply Hk
  iexact HS

theorem part5 (v2 v66 : BitVec 32)
    (Q : (Σ' (_ : BitVec 32) (_ : BitVec 32), BitVec 32) → sProp 𝕄) :
    inR P K c 3
      ⊢ iprop((∀ a, ∀ b, ∀ d, inR P K c 6 -∗ Q ⟨a, b, d⟩)
        -∗ wpc c (k0_part5 (F := F) xM h0 wgM h1 wuM h2 wdM h3 outM h4 commM h5 rAM h6 rBM h7
            cc0_scratch3 cc0_scratch4 cc0_scratch5 cc0_scratch6 cc0_scratch7 cc0_scratch8 c v2 v66) Q) := by
  rw [k0_part5_eq_skeleton]; unfold k0_part5_skel
  simp only [semSignalWord, semWaitWord, Prog.lift, Prog.bind_op, Prog.bind_ret, Prog.pure_eq_ret]
  iintro HS Hk
  iapply (step_R P K c 3 (src_R c 3 4#32 rfl _) rfl (devA1.2.2.2.1 c) rfl rfl) $$ [HS]
  · iexact HS
  iintro HS
  iapply (step_R P K c 4 (src_R c 4 5#32 rfl _) rfl (devA1.2.2.2.2.1 c) rfl rfl) $$ [HS]
  · iexact HS
  iintro HS
  iapply (step_R P K c 5 (src_R c 5 6#32 rfl _) rfl (devA1.2.2.2.2.2.1 c) rfl rfl) $$ [HS]
  · iexact HS
  iintro HS
  iapply (wpc_ret c _ Q)
  iapply Hk
  iexact HS

theorem part6 (v70 v142 : BitVec 32)
    (Q : PUnit → sProp 𝕄) :
    iprop(inR P K c 6 ∗ bigSep Finset.univ (wB (F := F) c kRR))
      ⊢ iprop((wtR P K c 2 1 -∗ Q ⟨⟩)
        -∗ wpc c (k0_part6 (F := F) xM h0 wgM h1 wuM h2 wdM h3 outM h4 commM h5 rAM h6 rBM h7
            cc0_scratch3 cc0_scratch4 cc0_scratch5 cc0_scratch6 cc0_scratch7 cc0_scratch8 c v70 v142) Q) := by
  rw [k0_part6_eq_skeleton]; unfold k0_part6_skel
  simp only [semSignalWord, semWaitWord, Prog.lift, Prog.bind_op, Prog.bind_ret, Prog.pure_eq_ret]
  iintro ⟨HS, HW⟩ Hk
  iapply (step_R P K c 6 (src_R c 6 7#32 rfl _) rfl (devA1.2.2.2.2.2.2 c) rfl rfl) $$ [HS]
  · iexact HS
  iintro HS
  ihave HS := (R_waits P K c) $$ [HS HW]
  · isplitl [HS]; · iexact HS
    iexact HW
  iapply (step_w1 P K c kRS kRR (ow c 7 3 7 0 0) 0 0 rfl (cr_R c 1#32 _) (above_0 c 7 3 7 0 0)) $$ [HS]
  · iexact HS
  iintro HS
  iapply (step_w2 P K c kRS kRR (ow c 7 3 7 0 0) 0 1 rfl (N_slA 0) (above_2 c 0 0)) $$ [HS]
  · iexact HS
  iintro HS
  iapply (step_w1 P K c kRS kRR (ow c 7 3 7 0 0) 1 1 rfl (cr_R c 2#32 _) (above_0 c 7 3 7 0 0)) $$ [HS]
  · iexact HS
  iintro HS
  iapply (wpc_ret c _ Q)
  iapply Hk
  iexact HS

theorem part7 (v82 v94 v106 : BitVec 32)
    (Q : BitVec 32 → sProp 𝕄) :
    wtR P K c 2 1
      ⊢ iprop((∀ a, wtR P K c 4 3 -∗ Q a)
        -∗ wpc c (k0_part7 (F := F) xM h0 wgM h1 wuM h2 wdM h3 outM h4 commM h5 rAM h6 rBM h7
            cc0_scratch3 cc0_scratch4 cc0_scratch5 cc0_scratch6 cc0_scratch7 cc0_scratch8 c v82 v94 v106) Q) := by
  rw [k0_part7_eq_skeleton]; unfold k0_part7_skel
  simp only [semSignalWord, semWaitWord, Prog.lift, Prog.bind_op, Prog.bind_ret, Prog.pure_eq_ret]
  iintro HS Hk
  iapply (step_w2 P K c kRS kRR (ow c 7 3 7 0 0) 1 2 rfl (N_slA 1) (above_2 c 0 0)) $$ [HS]
  · iexact HS
  iintro HS
  iapply (step_w1 P K c kRS kRR (ow c 7 3 7 0 0) 2 2 rfl (cr_R c 3#32 _) (above_0 c 7 3 7 0 0)) $$ [HS]
  · iexact HS
  iintro HS
  iapply (step_w2 P K c kRS kRR (ow c 7 3 7 0 0) 2 3 rfl (N_slA 2) (above_2 c 0 0)) $$ [HS]
  · iexact HS
  iintro HS
  iapply (step_w1 P K c kRS kRR (ow c 7 3 7 0 0) 3 3 rfl (cr_R c 4#32 _) (above_0 c 7 3 7 0 0)) $$ [HS]
  · iexact HS
  iintro HS
  iapply (wpc_ret c _ Q)
  iapply Hk
  iexact HS

theorem part8 (v118 v130 v193 : BitVec 32)
    (Q : PUnit → sProp 𝕄) :
    wtR P K c 4 3
      ⊢ iprop((wtR P K c 6 5 -∗ Q ⟨⟩)
        -∗ wpc c (k0_part8 (F := F) xM h0 wgM h1 wuM h2 wdM h3 outM h4 commM h5 rAM h6 rBM h7
            cc0_scratch3 cc0_scratch4 cc0_scratch5 cc0_scratch6 cc0_scratch7 cc0_scratch8 c v118 v130 v193) Q) := by
  rw [k0_part8_eq_skeleton]; unfold k0_part8_skel
  simp only [semSignalWord, semWaitWord, Prog.lift, Prog.bind_op, Prog.bind_ret, Prog.pure_eq_ret]
  iintro HS Hk
  iapply (step_w2 P K c kRS kRR (ow c 7 3 7 0 0) 3 4 rfl (N_slA 3) (above_2 c 0 0)) $$ [HS]
  · iexact HS
  iintro HS
  iapply (step_w1 P K c kRS kRR (ow c 7 3 7 0 0) 4 4 rfl (cr_R c 5#32 _) (above_0 c 7 3 7 0 0)) $$ [HS]
  · iexact HS
  iintro HS
  iapply (step_w2 P K c kRS kRR (ow c 7 3 7 0 0) 4 5 rfl (N_slA 4) (above_2 c 0 0)) $$ [HS]
  · iexact HS
  iintro HS
  iapply (step_w1 P K c kRS kRR (ow c 7 3 7 0 0) 5 5 rfl (cr_R c 6#32 _) (above_0 c 7 3 7 0 0)) $$ [HS]
  · iexact HS
  iintro HS
  iapply (wpc_ret c _ Q)
  iapply Hk
  iexact HS

theorem part9 (v67 v142 : BitVec 32)
    (Q : (Σ' (_ : FVec F S64x512 .f32), Vec F S1x64x512 .bf16) → sProp 𝕄) :
    iprop(wtR P K c 6 5 ∗ has c (seg (qa c)) fullShare (pseg P c (qa c)))
      ⊢ iprop((iprop(recs P K ∗ owed (F := F) c (ow c 7 3 7 0 0) ∗ over (F := F) c kRS ∗ over (F := F) c kRR ∗ (bigSep Finset.univ fun d : Fin 7 => has c (slA d) fullShare (pseg P (pA d c) (qa c))) ∗ (bigSep Finset.univ fun d : Fin 7 => iprop(∃ X, holds (F := F) (pA d c) (seg (qa c)) fullShare X)) ∗ has c (seg (qa c)) fullShare (pseg P c (qa c))) -∗ Q ⟨(k0_pay4 (pseg P c (qa c)) (lift (pseg P (pA 0 c) (qa c))) (lift (pseg P (pA 1 c) (qa c)))), (lift (pseg P (pA 2 c) (qa c)))⟩)
        -∗ wpc c (k0_part9 (F := F) xM h0 wgM h1 wuM h2 wdM h3 outM h4 commM h5 rAM h6 rBM h7
            cc0_scratch3 cc0_scratch4 cc0_scratch5 cc0_scratch6 cc0_scratch7 cc0_scratch8 c v67 v142) Q) := by
  rw [k0_part9_eq_skeleton]; unfold k0_part9_skel
  simp only [semSignalWord, semWaitWord, Prog.lift, Prog.bind_op, Prog.bind_ret, Prog.pure_eq_ret]
  iintro ⟨HS, Hown⟩ Hk
  iapply (step_w2 P K c kRS kRR (ow c 7 3 7 0 0) 5 6 rfl (N_slA 5) (above_2 c 0 0)) $$ [HS]
  · iexact HS
  iintro HS
  iapply (step_w1 P K c kRS kRR (ow c 7 3 7 0 0) 6 6 rfl (cr_R c 7#32 _) (above_0 c 7 3 7 0 0)) $$ [HS]
  · iexact HS
  iintro HS
  iapply (step_w2 P K c kRS kRR (ow c 7 3 7 0 0) 6 7 rfl (N_slA 6) (above_2 c 0 0)) $$ [HS]
  · iexact HS
  iintro HS
  ihave HS := (R_end P K c) $$ [HS]
  · iexact HS
  icases HS with ⟨#Hr, HO, HA, HB, HP, Hrem⟩
  iapply (wp_load_seg c (off2_eq c) fullShare (pseg P c (qa c))) $$ Hown
  iintro Hown
  iapply (step_loadA c 0 rfl fun d => pseg P (pA d c) (qa c)) $$ HP
  iintro HP
  iapply (step_loadA c 1 rfl fun d => pseg P (pA d c) (qa c)) $$ HP
  iintro HP
  iapply (step_loadA c 2 rfl fun d => pseg P (pA d c) (qa c)) $$ HP
  iintro HP
  iapply (wpc_ret c _ Q)
  iapply Hk
  isplitr; · iexact Hr
  isplitl [HO]; · iexact HO
  isplitl [HA]; · iexact HA
  isplitl [HB]; · iexact HB
  isplitl [HP]; · iexact HP
  isplitl [Hrem]; · iexact Hrem
  iexact Hown

theorem part10 (v2 v67 : BitVec 32)
    (Q : (Σ' (_ : BitVec 32), BitVec 32) → sProp 𝕄) :
    iprop(recs P K ∗ owed (F := F) c (ow c 7 3 7 0 0) ∗ over (F := F) c kRS ∗ over (F := F) c kRR ∗ (bigSep Finset.univ fun d : Fin 7 => has c (slA d) fullShare (pseg P (pA d c) (qa c))) ∗ has c (seg (qa c)) fullShare (pseg P c (qa c)) ∗ eX (F := F) c ∗ (bigSep Finset.univ fun e : Fin 3 => iprop(∃ X, holds (F := F) (pB e c) (slB e) fullShare X)))
      ⊢ iprop((∀ a, ∀ b, iprop(inX P K c 1 ∗ over (F := F) c kRS ∗ over (F := F) c kRR ∗ (bigSep Finset.univ fun d : Fin 7 => has c (slA d) fullShare (pseg P (pA d c) (qa c)))) -∗ Q ⟨a, b⟩)
        -∗ wpc c (k0_part10 (F := F) xM h0 wgM h1 wuM h2 wdM h3 outM h4 commM h5 rAM h6 rBM h7
            cc0_scratch3 cc0_scratch4 cc0_scratch5 cc0_scratch6 cc0_scratch7 cc0_scratch8 c v2 v67 (k0_pay4 (pseg P c (qa c)) (lift (pseg P (pA 0 c) (qa c))) (lift (pseg P (pA 1 c) (qa c)))) (lift (pseg P (pA 2 c) (qa c)))) Q) := by
  rw [k0_part10_eq_skeleton]; unfold k0_part10_skel
  simp only [semSignalWord, semWaitWord, Prog.lift, Prog.bind_op, Prog.bind_ret, Prog.pure_eq_ret]
  iintro ⟨#Hr, HO, HA, HB, HP, Hown, HE, HS⟩ Hk
  iapply (step_loadA c 3 rfl fun d => pseg P (pA d c) (qa c)) $$ HP
  iintro HP
  iapply (step_loadA c 4 rfl fun d => pseg P (pA d c) (qa c)) $$ HP
  iintro HP
  iapply (step_loadA c 5 rfl fun d => pseg P (pA d c) (qa c)) $$ HP
  iintro HP
  iapply (step_loadA c 6 rfl fun d => pseg P (pA d c) (qa c)) $$ HP
  iintro HP
  iapply (wp_load_seg c (off2_eq c) fullShare (pseg P c (qa c))) $$ Hown
  iintro Hown
  iapply (wp_store_seg c (off2_eq c) (pseg P c (qa c))) $$ Hown
  iintro Hown
  ihave HS := (X_start P K c) $$ [HO HE Hown HS]
  · isplitr; · iexact Hr
    isplitl [HO]; · iexact HO
    isplitl [HE]; · iexact HE
    isplitl [Hown]; · iexact Hown
    iexact HS
  iapply (step_X P K c 0 (src_own c _) rfl (devB1.1 c) rfl rfl) $$ [HS]
  · iexact HS
  iintro HS
  iapply (wpc_ret c _ Q)
  iapply Hk
  isplitl [HS]; · iexact HS
  isplitl [HA]; · iexact HA
  isplitl [HB]; · iexact HB
  iexact HP

theorem part11 (v2 v272 v282 : BitVec 32)
    (Q : BitVec 32 → sProp 𝕄) :
    iprop(inX P K c 1 ∗ bigSep Finset.univ (wB (F := F) c kXR))
      ⊢ iprop((∀ a, wtX P K c 1 0 -∗ Q a)
        -∗ wpc c (k0_part11 (F := F) xM h0 wgM h1 wuM h2 wdM h3 outM h4 commM h5 rAM h6 rBM h7
            cc0_scratch3 cc0_scratch4 cc0_scratch5 cc0_scratch6 cc0_scratch7 cc0_scratch8 c v2 v272 v282) Q) := by
  rw [k0_part11_eq_skeleton]; unfold k0_part11_skel
  simp only [semSignalWord, semWaitWord, Prog.lift, Prog.bind_op, Prog.bind_ret, Prog.pure_eq_ret]
  iintro ⟨HS, HW⟩ Hk
  iapply (step_X P K c 1 (src_own c _) rfl (devB1.2.1 c) rfl rfl) $$ [HS]
  · iexact HS
  iintro HS
  iapply (step_X P K c 2 (src_own c _) rfl (devB1.2.2 c) rfl rfl) $$ [HS]
  · iexact HS
  iintro HS
  ihave HS := (X_waits P K c) $$ [HS HW]
  · isplitl [HS]; · iexact HS
    iexact HW
  iapply (step_w1 P K c kXS kXR (ow c 7 3 7 3 0) 0 0 rfl (cr_own c _) (above_0 c 7 3 7 3 0)) $$ [HS]
  · iexact HS
  iintro HS
  iapply (wpc_ret c _ Q)
  iapply Hk
  iexact HS

theorem part12 (v282 v292 : BitVec 32)
    (Q : PUnit → sProp 𝕄) :
    wtX P K c 1 0
      ⊢ iprop((wtX P K c 3 2 -∗ Q ⟨⟩)
        -∗ wpc c (k0_part12 (F := F) xM h0 wgM h1 wuM h2 wdM h3 outM h4 commM h5 rAM h6 rBM h7
            cc0_scratch3 cc0_scratch4 cc0_scratch5 cc0_scratch6 cc0_scratch7 cc0_scratch8 c v282 v292) Q) := by
  rw [k0_part12_eq_skeleton]; unfold k0_part12_skel
  simp only [semSignalWord, semWaitWord, Prog.lift, Prog.bind_op, Prog.bind_ret, Prog.pure_eq_ret]
  iintro HS Hk
  iapply (step_w2 P K c kXS kXR (ow c 7 3 7 3 0) 0 1 rfl (N_slB 0) (above_3 c 0)) $$ [HS]
  · iexact HS
  iintro HS
  iapply (step_w1 P K c kXS kXR (ow c 7 3 7 3 0) 1 1 rfl (cr_own c _) (above_0 c 7 3 7 3 0)) $$ [HS]
  · iexact HS
  iintro HS
  iapply (step_w2 P K c kXS kXR (ow c 7 3 7 3 0) 1 2 rfl (N_slB 1) (above_3 c 0)) $$ [HS]
  · iexact HS
  iintro HS
  iapply (step_w1 P K c kXS kXR (ow c 7 3 7 3 0) 2 2 rfl (cr_own c _) (above_0 c 7 3 7 3 0)) $$ [HS]
  · iexact HS
  iintro HS
  iapply (wpc_ret c _ Q)
  iapply Hk
  iexact HS

theorem part13 (v2 v67 : BitVec 32)
    (Q : (Σ' (_ : BitVec 32) (_ : BitVec 32), BitVec 32) → sProp 𝕄) :
    iprop(wtX P K c 3 2 ∗ eG (F := F) c ∗ (bigSep Finset.univ fun d : Fin 7 => iprop(∃ X, holds (F := F) (pA d c) (seg (qa c)) fullShare X)))
      ⊢ iprop((∀ a, ∀ b, ∀ d, iprop(inG P K c 1 ∗ over (F := F) c kXS ∗ over (F := F) c kXR ∗ (bigSep Finset.univ fun e : Fin 3 => has c (slB e) fullShare (asum P (pB e c)))) -∗ Q ⟨a, b, d⟩)
        -∗ wpc c (k0_part13 (F := F) xM h0 wgM h1 wuM h2 wdM h3 outM h4 commM h5 rAM h6 rBM h7
            cc0_scratch3 cc0_scratch4 cc0_scratch5 cc0_scratch6 cc0_scratch7 cc0_scratch8 c v2 v67) Q) := by
  rw [k0_part13_eq_skeleton]; unfold k0_part13_skel
  simp only [semSignalWord, semWaitWord, Prog.lift, Prog.bind_op, Prog.bind_ret, Prog.pure_eq_ret]
  iintro ⟨HS, HE, Hrem⟩ Hk
  iapply (step_w2 P K c kXS kXR (ow c 7 3 7 3 0) 2 3 rfl (N_slB 2) (above_3 c 0)) $$ [HS]
  · iexact HS
  iintro HS
  ihave HS := (X_end P K c) $$ [HS]
  · iexact HS
  icases HS with ⟨#Hr, HO, HA, HB, Hown, HP⟩
  iapply (wp_load_seg c (off2_eq c) fullShare (asum P c)) $$ Hown
  iintro Hown
  iapply (step_loadB c 0 rfl fun e => asum P (pB e c)) $$ HP
  iintro HP
  iapply (step_loadB c 1 rfl fun e => asum P (pB e c)) $$ HP
  iintro HP
  iapply (step_loadB c 2 rfl fun e => asum P (pB e c)) $$ HP
  iintro HP
  iapply (wp_load_seg c (off2_eq c) fullShare (asum P c)) $$ Hown
  iintro Hown
  iapply (wp_store_seg c (off2_eq c) (asum P c)) $$ Hown
  iintro Hown
  ihave HS := (G_start P K c) $$ [HO HE Hown Hrem]
  · isplitr; · iexact Hr
    isplitl [HO]; · iexact HO
    isplitl [HE]; · iexact HE
    isplitl [Hown]; · iexact Hown
    iexact Hrem
  iapply (step_G P K c 0 (src_own c _) (src_own c _) (devA2.1 c) rfl rfl) $$ [HS]
  · iexact HS
  iintro HS
  iapply (wpc_ret c _ Q)
  iapply Hk
  isplitl [HS]; · iexact HS
  isplitl [HA]; · iexact HA
  isplitl [HB]; · iexact HB
  iexact HP

theorem part14 (v2 v368 : BitVec 32)
    (Q : (Σ' (_ : BitVec 32) (_ : BitVec 32), BitVec 32) → sProp 𝕄) :
    inG P K c 1
      ⊢ iprop((∀ a, ∀ b, ∀ d, inG P K c 4 -∗ Q ⟨a, b, d⟩)
        -∗ wpc c (k0_part14 (F := F) xM h0 wgM h1 wuM h2 wdM h3 outM h4 commM h5 rAM h6 rBM h7
            cc0_scratch3 cc0_scratch4 cc0_scratch5 cc0_scratch6 cc0_scratch7 cc0_scratch8 c v2 v368) Q) := by
  rw [k0_part14_eq_skeleton]; unfold k0_part14_skel
  simp only [semSignalWord, semWaitWord, Prog.lift, Prog.bind_op, Prog.bind_ret, Prog.pure_eq_ret]
  iintro HS Hk
  iapply (step_G P K c 1 (src_own c _) (src_own c _) (devA2.2.1 c) rfl rfl) $$ [HS]
  · iexact HS
  iintro HS
  iapply (step_G P K c 2 (src_own c _) (src_own c _) (devA2.2.2.1 c) rfl rfl) $$ [HS]
  · iexact HS
  iintro HS
  iapply (step_G P K c 3 (src_own c _) (src_own c _) (devA2.2.2.2.1 c) rfl rfl) $$ [HS]
  · iexact HS
  iintro HS
  iapply (wpc_ret c _ Q)
  iapply Hk
  iexact HS

theorem part15 (v2 v358 : BitVec 32)
    (Q : (Σ' (_ : BitVec 32), BitVec 32) → sProp 𝕄) :
    iprop(inG P K c 4 ∗ bigSep Finset.univ (wB (F := F) c kAR))
      ⊢ iprop((∀ a, ∀ b, wtG P K c 1 1 -∗ Q ⟨a, b⟩)
        -∗ wpc c (k0_part15 (F := F) xM h0 wgM h1 wuM h2 wdM h3 outM h4 commM h5 rAM h6 rBM h7
            cc0_scratch3 cc0_scratch4 cc0_scratch5 cc0_scratch6 cc0_scratch7 cc0_scratch8 c v2 v358) Q) := by
  rw [k0_part15_eq_skeleton]; unfold k0_part15_skel
  simp only [semSignalWord, semWaitWord, Prog.lift, Prog.bind_op, Prog.bind_ret, Prog.pure_eq_ret]
  iintro ⟨HS, HW⟩ Hk
  iapply (step_G P K c 4 (src_own c _) (src_own c _) (devA2.2.2.2.2.1 c) rfl rfl) $$ [HS]
  · iexact HS
  iintro HS
  iapply (step_G P K c 5 (src_own c _) (src_own c _) (devA2.2.2.2.2.2.1 c) rfl rfl) $$ [HS]
  · iexact HS
  iintro HS
  iapply (step_G P K c 6 (src_own c _) (src_own c _) (devA2.2.2.2.2.2.2 c) rfl rfl) $$ [HS]
  · iexact HS
  iintro HS
  ihave HS := (G_waits P K c) $$ [HS HW]
  · isplitl [HS]; · iexact HS
    iexact HW
  iapply (step_w1 P K c kAS kAR (ow c 7 3 7 3 7) 0 0 rfl (cr_own c _) (above_0 c 7 3 7 3 7)) $$ [HS]
  · iexact HS
  iintro HS
  iapply (step_w2 P K c kAS kAR (ow c 7 3 7 3 7) 0 1 rfl (cr_own c _) (above_4 c _)) $$ [HS]
  · iexact HS
  iintro HS
  iapply (wpc_ret c _ Q)
  iapply Hk
  iexact HS

theorem part16 (v367 v376 v385 : BitVec 32)
    (Q : (Σ' (_ : BitVec 32), BitVec 32) → sProp 𝕄) :
    wtG P K c 1 1
      ⊢ iprop((∀ a, ∀ b, wtG P K c 4 3 -∗ Q ⟨a, b⟩)
        -∗ wpc c (k0_part16 (F := F) xM h0 wgM h1 wuM h2 wdM h3 outM h4 commM h5 rAM h6 rBM h7
            cc0_scratch3 cc0_scratch4 cc0_scratch5 cc0_scratch6 cc0_scratch7 cc0_scratch8 c v367 v376 v385) Q) := by
  rw [k0_part16_eq_skeleton]; unfold k0_part16_skel
  simp only [semSignalWord, semWaitWord, Prog.lift, Prog.bind_op, Prog.bind_ret, Prog.pure_eq_ret]
  iintro HS Hk
  iapply (step_w1 P K c kAS kAR (ow c 7 3 7 3 7) 1 1 rfl (cr_own c _) (above_0 c 7 3 7 3 7)) $$ [HS]
  · iexact HS
  iintro HS
  iapply (step_w2 P K c kAS kAR (ow c 7 3 7 3 7) 1 2 rfl (cr_own c _) (above_4 c _)) $$ [HS]
  · iexact HS
  iintro HS
  iapply (step_w1 P K c kAS kAR (ow c 7 3 7 3 7) 2 2 rfl (cr_own c _) (above_0 c 7 3 7 3 7)) $$ [HS]
  · iexact HS
  iintro HS
  iapply (step_w2 P K c kAS kAR (ow c 7 3 7 3 7) 2 3 rfl (cr_own c _) (above_4 c _)) $$ [HS]
  · iexact HS
  iintro HS
  iapply (step_w1 P K c kAS kAR (ow c 7 3 7 3 7) 3 3 rfl (cr_own c _) (above_0 c 7 3 7 3 7)) $$ [HS]
  · iexact HS
  iintro HS
  iapply (wpc_ret c _ Q)
  iapply Hk
  iexact HS

theorem part17 (v394 v403 v455 c0_i32_419 : BitVec 32)
    (Q : PUnit → sProp 𝕄) :
    wtG P K c 4 3
      ⊢ iprop((wtG P K c 6 6 -∗ Q ⟨⟩)
        -∗ wpc c (k0_part17 (F := F) xM h0 wgM h1 wuM h2 wdM h3 outM h4 commM h5 rAM h6 rBM h7
            cc0_scratch3 cc0_scratch4 cc0_scratch5 cc0_scratch6 cc0_scratch7 cc0_scratch8 c v394 v403 v455 c0_i32_419) Q) := by
  rw [k0_part17_eq_skeleton]; unfold k0_part17_skel
  simp only [semSignalWord, semWaitWord, Prog.lift, Prog.bind_op, Prog.bind_ret, Prog.pure_eq_ret]
  iintro HS Hk
  iapply (step_w2 P K c kAS kAR (ow c 7 3 7 3 7) 3 4 rfl (cr_own c _) (above_4 c _)) $$ [HS]
  · iexact HS
  iintro HS
  iapply (step_w1 P K c kAS kAR (ow c 7 3 7 3 7) 4 4 rfl (cr_own c _) (above_0 c 7 3 7 3 7)) $$ [HS]
  · iexact HS
  iintro HS
  iapply (step_w2 P K c kAS kAR (ow c 7 3 7 3 7) 4 5 rfl (cr_own c _) (above_4 c _)) $$ [HS]
  · iexact HS
  iintro HS
  iapply (step_w1 P K c kAS kAR (ow c 7 3 7 3 7) 5 5 rfl (cr_own c _) (above_0 c 7 3 7 3 7)) $$ [HS]
  · iexact HS
  iintro HS
  iapply (step_w2 P K c kAS kAR (ow c 7 3 7 3 7) 5 6 rfl (cr_own c _) (above_4 c _)) $$ [HS]
  · iexact HS
  iintro HS
  iapply (wpc_ret c _ Q)
  iapply Hk
  iexact HS

/-! ## The whole body -/

theorem wpc_bind {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := by
  unfold wpc; rw [wp_bind]

/-- What the body takes: the right to signal and to send, the windows, the landing buffers, the credits it waits for. -/
def atStart (xv : Vec F S512x512 .f32) (gv uv : Vec F S512x1024 .f32) (dv : Vec F S1024x512 .f32) : sProp 𝕄 :=
  iprop(inA P K c 0 ∗ bigSep Finset.univ (sB (F := F) c)
    ∗ (has c xM fullShare xv ∗ has c wgM fullShare gv ∗ has c wuM fullShare uv ∗ has c wdM fullShare dv)
    ∗ (∃ X, has (F := F) c outM fullShare X) ∗ (∃ X, has (F := F) c commM fullShare X)
    ∗ (cred (tallyAt (cell c .bar) () 10) ∗ atPos ER (cell c .bar) 0 ∅ 0)
    ∗ (eR (F := F) c ∗ eX (F := F) c ∗ eG (F := F) c)
    ∗ (bigSep Finset.univ (wB (F := F) c kRR) ∗ bigSep Finset.univ (wB (F := F) c kXR) ∗ bigSep Finset.univ (wB (F := F) c kAR)))

/-- What it leaves: every wait is over, and the result is the sum of all devices' partials. -/
def atEnd (xv : Vec F S512x512 .f32) (gv uv : Vec F S512x1024 .f32) (dv : Vec F S1024x512 .f32) : sProp 𝕄 :=
  iprop((recs P K ∗ owed (F := F) c (ow c 7 3 7 3 7))
    ∗ (has c xM fullShare xv ∗ has c wgM fullShare gv ∗ has c wuM fullShare uv ∗ has c wdM fullShare dv)
    ∗ has c outM fullShare (k0_pay1 (fin P c)) ∗ has c commM fullShare (fin P c)
    ∗ ((bigSep Finset.univ fun d : Fin 7 => has c (slA d) fullShare (pseg P (pA d c) (qa c))) ∗ (bigSep Finset.univ fun e : Fin 3 => has c (slB e) fullShare (asum P (pB e c))))
    ∗ atPos ER (cell c .bar) 1 ∅ 0
    ∗ (over (F := F) c kRS ∗ over (F := F) c kRR) ∗ (over (F := F) c kXS ∗ over (F := F) c kXR) ∗ (over (F := F) c kAS ∗ over (F := F) c kAR))

/-- The body, from the one to the other. -/
theorem whole (xv : Vec F S512x512 .f32) (gv uv : Vec F S512x1024 .f32) (dv : Vec F S1024x512 .f32) (hP : k0_pay3 (k0_pay2 xv gv uv dv) = P c)
    (Q : PUnit → sProp 𝕄) :
    atStart P K c xv gv uv dv ⊢ iprop((atEnd P K c xv gv uv dv -∗ Q ⟨⟩)
      -∗ wpc c (cc0_body (F := F) xM h0 wgM h1 wuM h2 wdM h3 outM h4 commM h5 rAM h6 rBM h7
          cc0_scratch3 cc0_scratch4 cc0_scratch5 cc0_scratch6 cc0_scratch7 cc0_scratch8) Q) := by
  rw [cc0_body_eq_skeleton]; unfold cc0_body_skel atStart
  iintro ⟨HS, HsB, ⟨H0, H1, H2, H3⟩, ⟨%Xo, Hout⟩, HC, ⟨Hc, Ha⟩, ⟨HeR, HeX, HeG⟩, ⟨HwR, HwX, HwG⟩⟩ Hk
  iapply (wpc_bind c _ _ Q)
  iapply (part1 P K c h0 h1 h2 h3 h4 h5 h6 h7 _) $$ [HS]
  · iexact HS
  iintro %v2 %v23 HS
  try dsimp only
  iapply (wpc_bind c _ _ Q)
  iapply (part2 P K c h0 h1 h2 h3 h4 h5 h6 h7 _ _ xv gv uv dv _) $$ [HS HsB H0 H1 H2 H3]
  · isplitl [HS]; · iexact HS
    isplitl [HsB]; · iexact HsB
    isplitl [H0]; · iexact H0
    isplitl [H1]; · iexact H1
    isplitl [H2]; · iexact H2
    iexact H3
  iintro ⟨HS, H0, H1, H2, H3⟩
  try dsimp only
  iapply (wpc_bind c _ _ Q)
  iapply (part3 P K c h0 h1 h2 h3 h4 h5 h6 h7 _ _ hP _) $$ [HS HC Hc Ha HeR]
  · isplitl [HS]; · iexact HS
    isplitl [HC]; · iexact HC
    isplitl [Hc]; · iexact Hc
    isplitl [Ha]; · iexact Ha
    iexact HeR
  iintro %v66 %v67 %v70 %v82 ⟨HS, Hown, Ha, HsB⟩
  try dsimp only
  iapply (wpc_bind c _ _ Q)
  iapply (part4 P K c h0 h1 h2 h3 h4 h5 h6 h7 _ _ _ _) $$ [HS]
  · iexact HS
  iintro %v94 %v106 HS
  try dsimp only
  iapply (wpc_bind c _ _ Q)
  iapply (part5 P K c h0 h1 h2 h3 h4 h5 h6 h7 _ _ _) $$ [HS]
  · iexact HS
  iintro %v118 %v130 %v142 HS
  try dsimp only
  iapply (wpc_bind c _ _ Q)
  iapply (part6 P K c h0 h1 h2 h3 h4 h5 h6 h7 _ _ _) $$ [HS HwR]
  · isplitl [HS]; · iexact HS
    iexact HwR
  iintro HS
  try dsimp only
  iapply (wpc_bind c _ _ Q)
  iapply (part7 P K c h0 h1 h2 h3 h4 h5 h6 h7 _ _ _ _) $$ [HS]
  · iexact HS
  iintro %v193 HS
  try dsimp only
  iapply (wpc_bind c _ _ Q)
  iapply (part8 P K c h0 h1 h2 h3 h4 h5 h6 h7 _ _ _ _) $$ [HS]
  · iexact HS
  iintro HS
  try dsimp only
  iapply (wpc_bind c _ _ Q)
  iapply (part9 P K c h0 h1 h2 h3 h4 h5 h6 h7 _ _ _) $$ [HS Hown]
  · isplitl [HS]; · iexact HS
    iexact Hown
  iintro ⟨#Hr, HO, HRS, HRR, HslA, Hrem, Hown⟩
  try dsimp only
  iapply (wpc_bind c _ _ Q)
  iapply (part10 P K c h0 h1 h2 h3 h4 h5 h6 h7 _ _ _) $$ [HO HRS HRR HslA Hown HeX HsB]
  · isplitr; · iexact Hr
    isplitl [HO]; · iexact HO
    isplitl [HRS]; · iexact HRS
    isplitl [HRR]; · iexact HRR
    isplitl [HslA]; · iexact HslA
    isplitl [Hown]; · iexact Hown
    isplitl [HeX]; · iexact HeX
    iexact HsB
  iintro %v272 %v282 ⟨HS, HRS, HRR, HslA⟩
  try dsimp only
  iapply (wpc_bind c _ _ Q)
  iapply (part11 P K c h0 h1 h2 h3 h4 h5 h6 h7 _ _ _ _) $$ [HS HwX]
  · isplitl [HS]; · iexact HS
    iexact HwX
  iintro %v292 HS
  try dsimp only
  iapply (wpc_bind c _ _ Q)
  iapply (part12 P K c h0 h1 h2 h3 h4 h5 h6 h7 _ _ _) $$ [HS]
  · iexact HS
  iintro HS
  try dsimp only
  iapply (wpc_bind c _ _ Q)
  iapply (part13 P K c h0 h1 h2 h3 h4 h5 h6 h7 _ _ _) $$ [HS HeG Hrem]
  · isplitl [HS]; · iexact HS
    isplitl [HeG]; · iexact HeG
    iexact Hrem
  iintro %v358 %v367 %v368 ⟨HS, HXS, HXR, HslB⟩
  try dsimp only
  iapply (wpc_bind c _ _ Q)
  iapply (part14 P K c h0 h1 h2 h3 h4 h5 h6 h7 _ _ _) $$ [HS]
  · iexact HS
  iintro %v376 %v385 %v394 HS
  try dsimp only
  iapply (wpc_bind c _ _ Q)
  iapply (part15 P K c h0 h1 h2 h3 h4 h5 h6 h7 _ _ _) $$ [HS HwG]
  · isplitl [HS]; · iexact HS
    iexact HwG
  iintro %v403 %v412 HS
  try dsimp only
  iapply (wpc_bind c _ _ Q)
  iapply (part16 P K c h0 h1 h2 h3 h4 h5 h6 h7 _ _ _ _) $$ [HS]
  · iexact HS
  iintro %v455 %cc HS
  try dsimp only
  iapply (wpc_bind c _ _ Q)
  iapply (part17 P K c h0 h1 h2 h3 h4 h5 h6 h7 _ _ _ _ _) $$ [HS]
  · iexact HS
  iintro HS
  try dsimp only
  simp only [Prog.lift, Prog.bind_op, Prog.bind_ret, Prog.pure_eq_ret]
  iapply (step_w1 P K c kAS kAR (ow c 7 3 7 3 7) 6 6 rfl (cr_own c _) (above_0 c 7 3 7 3 7)) $$ [HS]
  · iexact HS
  iintro HS
  iapply (step_w2 P K c kAS kAR (ow c 7 3 7 3 7) 6 7 rfl (cr_own c _) (above_4 c _)) $$ [HS]
  · iexact HS
  iintro HS
  ihave HS := (G_end P K c) $$ [HS]
  · iexact HS
  icases HS with ⟨#Hr', HO, HAS, HAR, HC⟩
  iapply (wp_load_all c commM fullShare (fin P c)) $$ HC
  iintro HC
  iapply (wp_load_all c outM fullShare Xo) $$ Hout
  iintro Hout
  iapply (wp_store_all c outM Xo) $$ Hout
  iintro Hout
  iapply (wpc_ret c _ Q)
  iapply Hk
  unfold atEnd
  isplitl [HO]
  · isplitr; · iexact Hr'
    iexact HO
  isplitl [H0 H1 H2 H3]
  · isplitl [H0]; · iexact H0
    isplitl [H1]; · iexact H1
    isplitl [H2]; · iexact H2
    iexact H3
  isplitl [Hout]; · iexact Hout
  isplitl [HC]; · iexact HC
  isplitl [HslA HslB]
  · isplitl [HslA]; · iexact HslA
    iexact HslB
  isplitl [Ha]; · iexact Ha
  isplitl [HRS HRR]
  · isplitl [HRS]; · iexact HRS
    iexact HRR
  isplitl [HXS HXR]
  · isplitl [HXS]; · iexact HXS
    iexact HXR
  · isplitl [HAS]; · iexact HAS
    iexact HAR

end Cert.GatedMlp

end
-- ==== Proof.Ghost.lean ====
/-
# `Ghost`: what the launch deals each device

The cells' invariants are allocated for all devices at once; every duty's token goes to the device that pays it; and each device
gets the credits for what the others owe its cells.
-/
module

public import proofs.«01_k».proof.Proof.Phases
public import Idealize.ShloMosaic.Lib.Pipeline.Launch
public import Idealize.ShloMosaic.Lib.Pipeline.Kit
public import proofs.«01_k».proof.Proof.Gen.KernelIdeal.Launch

@[expose] public section

noncomputable section

namespace Cert.GatedMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (P : Dev nD → Vec F S512x512 .bf16)

/-! ## The ghost state of the exchange -/

theorem ownSemFacts : Pipeline.OwnSemFacts cfg0.spec osem := by decide

/-- All cells. -/
def allCells : Finset (GSem nD τ sig) := Finset.univ.map ⟨kcell, kcell_injective⟩
/-- The duties of a device's own cells: ten of its barrier cell, one of each transfer cell. -/
def tokOf (x : Dev nD × (Duty ⊕ OSlot)) : GSem nD τ sig × ℕ × Duty := match x.2 with
  | .inl d => (cell x.1 .bar, 0, d)
  | .inr k => (cell x.1 (.inr k), 0, .inl 0)
theorem tokOf_injective : Function.Injective tokOf := by
  rintro ⟨c, d | k⟩ ⟨c', d' | k'⟩ h
  · obtain ⟨rfl, -⟩ := cell_inj (congrArg Prod.fst h)
    exact congrArg (fun d => (c, Sum.inl d)) (congrArg (fun x : GSem nD τ sig × ℕ × Duty => x.2.2) h)
  · exact absurd (cell_inj (congrArg Prod.fst h)).2 (by intro h; cases h)
  · exact absurd (cell_inj (congrArg Prod.fst h)).2 (by intro h; cases h)
  · obtain ⟨rfl, hk⟩ := cell_inj (congrArg Prod.fst h)
    obtain rfl := Sum.inr.inj hk
    rfl
def allToks : Finset (GSem nD τ sig × ℕ × Duty) := Finset.univ.map ⟨tokOf, tokOf_injective⟩

def u₀ : UU := (initOf (Pipeline.cells cfgs cellOf_inj) (Pipeline.launchToks cfgs cellOf_inj), initOf allCells allToks)

/-- The tokens of the duties of device `c`'s own cells. -/
def toks (c : Dev nD) : sProp 𝕄 :=
  iprop((bigSep Finset.univ fun d : Duty => dutyTok ER (cell c .bar) 0 d) ∗ bigSep Finset.univ fun k : OSlot => dutyTok ER (cell c (.inr k)) 0 (.inl 0))
/-- Device `c` is at round 0 of each of its cells. -/
def ats (c : Dev nD) : sProp 𝕄 := bigSep Finset.univ fun k : Slot => atPos ER (cell c k) 0 ∅ 0

def G (c : Dev nD) : sProp 𝕄 :=
  iprop((bigSep Finset.univ fun k : Slot => roundState ER (rd P) (cell c k) 0)
    ∗ (ats (F := F) c ∗ bigSep Finset.univ fun k : Slot => reached ER (cell c k) 0) ∗ toks c)

theorem fund_all : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k : Slot => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rd P) allCells allToks) $$ HX with ⟨Hst, Hr, Hat, Htok⟩
  imodintro
  ihave Hst := (Entails.of_eq (hX fun g => roundState ER (rd P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G ats; simp only [bigSep_sep']
  isplitl [Hst]; · iexact Hst
  isplitl [Hat Hr]
  · isplitl [Hat]; · iexact Hat
    iexact Hr
  iexact Htok

/-! ## The duties dealt to the devices that pay them -/

/-- Over all devices, a family indexed by an involution's values is the family. -/
theorem around {n : ℕ} (p : Fin n → Dev nD → Dev nD) (hp : ∀ d c, p d (p d c) = c) (T : Dev nD → Fin n → sProp 𝕄) :
    (bigSep Finset.univ fun c : Dev nD => bigSep Finset.univ fun d => T c d) = bigSep Finset.univ fun c : Dev nD => bigSep Finset.univ fun d => T (p d c) d := by
  rw [bigSep_univ_comm, bigSep_univ_comm (fun (c : Dev nD) d => T (p d c) d)]
  exact bigSep_congr fun d _ => bigSep_univ_equiv (⟨p d, p d, hp d, hp d⟩ : Dev nD ≃ Dev nD) (fun c => T c d)

/-- The tokens of the duties that device `c` pays. -/
def payToks (c : Dev nD) : sProp 𝕄 :=
  iprop((bigSep Finset.univ fun d : Fin 7 => dutyTok ER (cell (pA d c) .bar) 0 (.inl d)) ∗ (bigSep Finset.univ fun e : Fin 3 => dutyTok ER (cell (pB e c) .bar) 0 (.inr e))
    ∗ (bigSep Finset.univ fun d : Fin 7 => dutyTok ER (cell c (.rs d)) 0 (.inl 0)) ∗ (bigSep Finset.univ fun d : Fin 7 => dutyTok ER (cell (pA d c) (.rr d)) 0 (.inl 0))
    ∗ (bigSep Finset.univ fun e : Fin 3 => dutyTok ER (cell c (.xs e)) 0 (.inl 0)) ∗ (bigSep Finset.univ fun e : Fin 3 => dutyTok ER (cell (pB e c) (.xr e)) 0 (.inl 0))
    ∗ (bigSep Finset.univ fun d : Fin 7 => dutyTok ER (cell c (.as d)) 0 (.inl 0)) ∗ (bigSep Finset.univ fun d : Fin 7 => dutyTok ER (cell (pA d c) (.ar d)) 0 (.inl 0)))

theorem toks_around : (bigSep Finset.univ fun c : Dev nD => (toks c : sProp 𝕄)) = bigSep Finset.univ fun c : Dev nD => payToks c := by
  have h1 := around (F := F) pA pA_pA fun c d => dutyTok ER (cell c .bar) 0 (.inl d)
  have h2 := around (F := F) pB pB_pB fun c e => dutyTok ER (cell c .bar) 0 (.inr e)
  have h3 := around (F := F) pA pA_pA fun c d => dutyTok ER (cell c (.rr d)) 0 (.inl 0)
  have h4 := around (F := F) pB pB_pB fun c e => dutyTok ER (cell c (.xr e)) 0 (.inl 0)
  have h5 := around (F := F) pA pA_pA fun c d => dutyTok ER (cell c (.ar d)) 0 (.inl 0)
  have h0 (c : Dev nD) : (toks c : sProp 𝕄) = iprop((((bigSep Finset.univ fun d : Fin 7 => dutyTok ER (cell c .bar) 0 (.inl d)) ∗ (bigSep Finset.univ fun e : Fin 3 => dutyTok ER (cell c .bar) 0 (.inr e))))
    ∗ (bigSep Finset.univ fun d : Fin 7 => dutyTok ER (cell c (.rs d)) 0 (.inl 0)) ∗ (bigSep Finset.univ fun d : Fin 7 => dutyTok ER (cell c (.rr d)) 0 (.inl 0))
    ∗ (bigSep Finset.univ fun e : Fin 3 => dutyTok ER (cell c (.xs e)) 0 (.inl 0)) ∗ (bigSep Finset.univ fun e : Fin 3 => dutyTok ER (cell c (.xr e)) 0 (.inl 0))
    ∗ (bigSep Finset.univ fun d : Fin 7 => dutyTok ER (cell c (.as d)) 0 (.inl 0)) ∗ (bigSep Finset.univ fun d : Fin 7 => dutyTok ER (cell c (.ar d)) 0 (.inl 0))) := by
    unfold toks; rw [bigSep_univ_sum, bigSep_univ_sum, bigSep_univ_sum, bigSep_univ_sum, bigSep_univ_sum, bigSep_univ_sum]; rfl
  rw [bigSep_congr fun c _ => h0 c]
  unfold payToks
  simp only [bigSep_sep']
  rw [h1, h2, h3, h4, h5]
  have hA (A B C : sProp (MT nD τ sig Unit (Elt F) ℕ UU ℕ)) : iprop((A ∗ B) ∗ C) = iprop(A ∗ B ∗ C) := by
    refine equiv_iff.mp ⟨?_, ?_⟩
    · show iprop((A ∗ B) ∗ C) ⊢ iprop(A ∗ B ∗ C)
      iintro ⟨⟨HA, HB⟩, HC⟩
      isplitl [HA]; · iexact HA
      isplitl [HB] <;> iassumption
    · show iprop(A ∗ B ∗ C) ⊢ iprop((A ∗ B) ∗ C)
      iintro ⟨HA, HB, HC⟩
      isplitr [HC]
      · isplitl [HA] <;> iassumption
      iexact HC
  exact hA _ _ _

/-! ## The cells' invariants -/

/-- The invariants and the rounds, without the levels. -/
def recs0 (K : Dev nD × Slot → ℕ) : sProp 𝕄 :=
  iprop((bigSep Finset.univ fun ck : Dev nD × Slot => cellInv ER (rd P) (K ck) (kcell ck))
    ∗ (bigSep Finset.univ fun ck : Dev nD × Slot => reached ER (kcell ck) 0))
instance recs0_persistent (K : Dev nD × Slot → ℕ) : BI.Persistent (recs0 P K) := by unfold recs0; infer_instance

/-- What a device starts from. -/
def G' (c : Dev nD) : sProp 𝕄 := iprop(∃ K, recs0 P K ∗ ats (F := F) c ∗ payToks c)

theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Slot => semVal (cell c k) 0 : sProp 𝕄) := by
  have h : (bigSep Finset.univ fun k : Slot => semVal (cell c k) 0 : sProp 𝕄)
      = iprop(semVal (cell c .bar) 0 ∗ Pipeline.ownSems0 (Ix := Unit) (Name := ℕ) (U := UU) (Lvl := ℕ) (Val := Elt F) (τ := τ) osem c) := by
    rw [bigSep_univ_sum, Finset.univ_unique, bigSep_singleton]; rfl
  rw [unscopedSems0_eq, h]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G P c)
      ⊢ |={Set.univ}=> iprop((bigSep Finset.univ fun k : Slot => iprop(∃ κ : ℕ, cellInv ER (rd P) κ (cell c k)))
          ∗ (ats (F := F) c ∗ bigSep Finset.univ fun k : Slot => reached ER (cell c k) 0) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Slot => semVal (cell c k) 0) ∗ bigSep Finset.univ fun k : Slot => roundState ER (rd P) (cell c k) 0)
      ⊢ (|={Set.univ}=> bigSep Finset.univ fun k : Slot => iprop(∃ κ : ℕ, cellInv ER (rd P) κ (cell c k)) : sProp 𝕄) from by
        rw [← bigSep_sep']
        exact (bigSep_mono fun k _ => (Rounds.body_intro ER (rd P) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Slot => iprop(∃ κ : ℕ, cellInv ER (rd P) κ (cell c k)))
          ∗ (ats (F := F) c ∗ bigSep Finset.univ fun k : Slot => reached ER (cell c k) 0) ∗ toks c) : sProp 𝕄)
      ⊢ bigSep Finset.univ (G' P) := by
  classical
  rw [bigSep_sep', bigSep_sep', bigSep_sep', toks_around,
    ← bigSep_univ_prod (fun ck : Dev nD × Slot => iprop(∃ κ : ℕ, cellInv ER (rd P) κ (kcell ck))),
    ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (rd P) κ (kcell ck) : sProp 𝕄))) $$ HI
  icases HK with ⟨%K, #HI⟩
  have h : iprop(recs0 P K ∗ bigSep Finset.univ fun c : Dev nD => iprop(ats (F := F) c ∗ payToks c)) ⊢ bigSep Finset.univ (G' P) :=
    with_persistent (R := recs0 P K) fun c _ => by
      unfold G'; iintro ⟨HR, HA⟩; iexists K
      isplitl [HR]; · iexact HR
      iexact HA
  iapply h
  isplitr
  · unfold recs0
    isplitr; · iexact HI
    iexact HR
  · iapply (Entails.of_eq (bigSep_sep' Finset.univ (fun c : Dev nD => ats (F := F) c) payToks).symm)
    isplitl [Hat]; · iexact Hat
    iexact Htok

/-- The global step of the launch. -/
theorem glob : (bigSep Finset.univ fun c => iprop(Pipeline.ownSems0 (Ix := Unit) (Name := ℕ) (U := UU) (Lvl := ℕ) (Val := Elt F) (τ := τ) osem c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The credits -/

/-- What a device owes at launch. -/
abbrev O₀ (c : Dev nD) : CellTallies nD τ sig Unit := ow c 0 0 0 0 0

/-- What a device's cell is owed. -/
def due : Slot → ℕ
  | .bar => 10
  | .rr _ => N
  | .xr _ => N
  | .ar _ => N
  | _ => 0

/-- What all devices together owe one cell through a family. -/
theorem owed_fam {n : ℕ} (p : Fin n → Dev nD → Dev nD) (hp : ∀ d c, p d (p d c) = c) (kf : Fin n → Slot) (a : ℕ) (c : Dev nD) (k : Slot) :
    ∑ d : Dev nD, (fam (fun r => tallyAt (cell (p r d) (kf r)) () a) 0 : CellTallies nD τ sig Unit) (cell c k) () = ∑ r, if k = kf r then a else 0 := by
  have h (d : Dev nD) : (fam (fun r => tallyAt (cell (p r d) (kf r)) () a) 0 : CellTallies nD τ sig Unit) (cell c k) ()
      = ∑ r, (if d = p r c then (if k = kf r then a else 0) else 0) := by
    rw [fam_zero, Finset.sum_apply, Finsupp.finset_sum_apply]
    refine Finset.sum_congr rfl fun r _ => ?_
    rw [tallyAt_apply]
    by_cases hd : d = p r c
    · subst hd
      by_cases hk : k = kf r
      · rw [if_pos ⟨by rw [hp, hk], rfl⟩, if_pos rfl, if_pos hk]
      · rw [if_neg fun h => hk (cell_inj h.1).2, if_pos rfl, if_neg hk]
    · rw [if_neg fun h => hd (by rw [(cell_inj h.1).1, hp]), if_neg hd]
  rw [Finset.sum_congr rfl fun d _ => h d, Finset.sum_comm]
  refine Finset.sum_congr rfl fun r _ => ?_
  rw [Finset.sum_ite_eq' Finset.univ (p r c) fun _ => if k = kf r then a else 0, if_pos (Finset.mem_univ _)]

theorem owed_all (c : Dev nD) (k : Slot) : ∑ d : Dev nD, O₀ d (cell c k) () = due k := by
  have h (d : Dev nD) : O₀ d (cell c k) () = (fam (oBA d) 0) (cell c k) () + (fam (oBB d) 0) (cell c k) () + (fam (oR d) 0) (cell c k) ()
      + (fam (oX d) 0) (cell c k) () + (fam (oG d) 0) (cell c k) () := rfl
  rw [Finset.sum_congr rfl fun d _ => h d]
  simp only [Finset.sum_add_distrib]
  have h1 := owed_fam pA pA_pA (fun _ => .bar) 1 c k
  have h2 := owed_fam pB pB_pB (fun _ => .bar) 1 c k
  have h3 := owed_fam pA pA_pA (fun d => .rr d) N c k
  have h4 := owed_fam pB pB_pB (fun e => .xr e) N c k
  have h5 := owed_fam pA pA_pA (fun d => .ar d) N c k
  unfold oBA oBB oR oX oG
  rw [h1, h2, h3, h4, h5]
  rcases k with _ | k | k | k | k | k | k <;> simp [due]

theorem launch_due (c : Dev nD) (k : Slot) :
    tallyOn (cell c k) (launchCredit (Pipeline.owing O₀) 0 (cell c k)) = (tallyAt (cell c k) () (due k) : CellTallies nD τ sig Unit) := by
  unfold tallyAt; refine congrArg _ (Finsupp.ext fun u => ?_); cases u
  rw [Pipeline.launchCredit_owing, Finsupp.single_eq_same]
  exact owed_all c k

/-- The credits of a device: for its barrier's ten units and for each transfer to it. -/
def creds (c : Dev nD) : sProp 𝕄 :=
  iprop(cred (tallyAt (cell c .bar) () 10) ∗ (bigSep Finset.univ fun d : Fin 7 => cred (tallyAt (cell c (.rr d)) () N))
    ∗ (bigSep Finset.univ fun e : Fin 3 => cred (tallyAt (cell c (.xr e)) () N)) ∗ bigSep Finset.univ fun d : Fin 7 => cred (tallyAt (cell c (.ar d)) () N))

theorem creds_intro (c : Dev nD) : (Pipeline.launchCred O₀ c : sProp 𝕄) ⊢ creds c := by
  classical
  have h1 : (Pipeline.launchCred O₀ c : sProp 𝕄) ⊢ bigSep Finset.univ fun k : Slot => cred (tallyAt (cell c k) () (due k)) := by
    unfold Pipeline.launchCred
    refine (bigSep_subset (Finset.subset_univ (Finset.univ.map ⟨csem, csem_inj⟩))).trans ?_
    rw [bigSep_map]
    exact bigSep_mono fun k _ => by
      show (cred (tallyOn (cell c k) (launchCredit (Pipeline.owing O₀) 0 (cell c k))) : sProp 𝕄) ⊢ cred (tallyAt (cell c k) () (due k))
      rw [launch_due]
  refine h1.trans ?_
  rw [bigSep_univ_sum, bigSep_univ_sum, bigSep_univ_sum, bigSep_univ_sum, bigSep_univ_sum, bigSep_univ_sum, Finset.univ_unique, bigSep_singleton]
  unfold creds
  show iprop(_ ∗ _ ∗ _ ∗ _ ∗ _ ∗ _ ∗ _) ⊢ _
  iintro ⟨H0, -, H1, -, H2, -, H3⟩
  isplitl [H0]; · iexact H0
  isplitl [H1]; · iexact H1
  isplitl [H2]; · iexact H2
  iexact H3

end Cert.GatedMlp

end
-- ==== Proof.Launch.lean ====
/-
# `Launch`: every run of the program ends, with the sum of all devices' partials in each device's result
-/
module

public import proofs.«01_k».proof.Proof.Body
public import proofs.«01_k».proof.Proof.Ghost
public import proofs.«01_k».proof.Proof.Gen.KernelIdeal.Points
public import Idealize.ShloMosaic.Lib.Pipeline.CollectiveSegs
public import Idealize.ShloMosaic.Lib.Tactic

@[expose] public section

noncomputable section

namespace Cert.GatedMlp

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch: any memory, every counter at zero. -/
def s₀ : MemSt nD τ sig (Elt F) := ⟨m, fun _ => 0, ρ⟩

/-- Device `c`'s operands as they lie in the kernel's windows. -/
def xstg (c : Dev nD) : Vec F S512x512 .f32 := (win0_0.blk t0_0).view.read (Elt F) (m ((c : Thread nD τ).loc main_arg0))
def gstg (c : Dev nD) : Vec F S512x1024 .f32 := (win0_1.blk t0_0).view.read (Elt F) (m ((c : Thread nD τ).loc main_arg1))
def ustg (c : Dev nD) : Vec F S512x1024 .f32 := (win0_2.blk t0_0).view.read (Elt F) (m ((c : Thread nD τ).loc main_arg2))
def dstg (c : Dev nD) : Vec F S1024x512 .f32 := (win0_3.blk t0_0).view.read (Elt F) (m ((c : Thread nD τ).loc main_arg3))

/-- Device `c`'s partial result. -/
def part (c : Dev nD) : Vec F S512x512 .bf16 := k0_pay3 (k0_pay2 (xstg m c) (gstg m c) (ustg m c) (dstg m c))

/-- The three scratch buffers of device `c`, whatever they hold. -/
def scratch (c : Dev nD) : sProp 𝕄 :=
  iprop((∃ X, has (F := F) c commM fullShare X) ∗ (∃ X, has (F := F) c rAM fullShare X) ∗ (∃ X, has (F := F) c rBM fullShare X))

/-- What a device's program starts from. -/
def start (c : Dev nD) : sProp 𝕄 := iprop(G' (part m) c ∗ creds (F := F) c ∗ levs)
def Φ₀ (c : Dev nD) : sProp 𝕄 := iprop(start m c ∗ scratch (F := F) c)
def Φ₁ (c : Dev nD) : sProp 𝕄 := iprop(scratch (F := F) c ∗ bigSep Finset.univ fun k : Slot => semVal (cell c k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => gstg m c
    | ⟨2, _⟩ => ustg m c
    | ⟨3, _⟩ => dstg m c
    | ⟨4, _⟩ => k0_pay1 (fin (part m) c)
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-! ## The body's obligation -/

theorem before_x (c : Dev nD) (d) : (dats m ρ 0 c).before (0 : Fin 5) t0_0 d = xstg m c := by
  unfold Dat.before; rw [if_pos (fetch0_0 t0_0)]; rfl
theorem before_g (c : Dev nD) (d) : (dats m ρ 0 c).before (1 : Fin 5) t0_0 d = gstg m c := by
  unfold Dat.before; rw [if_pos (fetch0_1 t0_0)]; rfl
theorem before_u (c : Dev nD) (d) : (dats m ρ 0 c).before (2 : Fin 5) t0_0 d = ustg m c := by
  unfold Dat.before; rw [if_pos (fetch0_2 t0_0)]; rfl
theorem before_d (c : Dev nD) (d) : (dats m ρ 0 c).before (3 : Fin 5) t0_0 d = dstg m c := by
  unfold Dat.before; rw [if_pos (fetch0_3 t0_0)]; rfl

/-- Device `c`'s place in each of its cells, family by family. -/
theorem ats_eq (c : Dev nD) (n : ℕ) (Q : GSem nD τ sig → sProp 𝕄) : (bigSep Finset.univ fun k : Slot => Q (cell c k))
    = iprop(Q (cell c .bar) ∗ (bigSep Finset.univ fun d => Q (cell c (.inr (kRS d)))) ∗ (bigSep Finset.univ fun d => Q (cell c (.inr (kRR d))))
      ∗ (bigSep Finset.univ fun e => Q (cell c (.inr (kXS e)))) ∗ (bigSep Finset.univ fun e => Q (cell c (.inr (kXR e))))
      ∗ (bigSep Finset.univ fun d => Q (cell c (.inr (kAS d)))) ∗ bigSep Finset.univ fun d => Q (cell c (.inr (kAR d)))) := by
  rw [bigSep_univ_sum, bigSep_univ_sum, bigSep_univ_sum, bigSep_univ_sum, bigSep_univ_sum, bigSep_univ_sum, Finset.univ_unique, bigSep_singleton]; rfl

theorem zip2 {n : ℕ} (A B : Fin n → sProp 𝕄) : iprop(bigSep Finset.univ A ∗ bigSep Finset.univ B) ⊢ bigSep Finset.univ fun d => iprop(A d ∗ B d) := by
  rw [bigSep_sep']
theorem zip3 {n : ℕ} (A B C : Fin n → sProp 𝕄) :
    iprop(bigSep Finset.univ A ∗ bigSep Finset.univ B ∗ bigSep Finset.univ C) ⊢ bigSep Finset.univ fun d => iprop(A d ∗ B d ∗ C d) := by
  rw [bigSep_sep', bigSep_sep']

/-- From what the launch deals to what the body takes. -/
theorem atStart_intro (c : Dev nD) (xv : Vec F S512x512 .f32) (gv uv : Vec F S512x1024 .f32) (dv : Vec F S1024x512 .f32) :
    iprop(Φ₀ m c ∗ owed (F := F) c (O₀ c) ∗ (has c xM fullShare xv ∗ has c wgM fullShare gv ∗ has c wuM fullShare uv ∗ has c wdM fullShare dv)
      ∗ (∃ X, has (F := F) c outM fullShare X)) ⊢ iprop(∃ K, atStart (part m) K c xv gv uv dv) := by
  unfold Φ₀ start G' scratch creds payToks ats
  iintro ⟨⟨⟨⟨%K, HR, Hat, ⟨TA, TB, Trs, Trr, Txs, Txr, Tas, Tar⟩⟩, ⟨Cb, Cr, Cx, Cg⟩, Hlev⟩, ⟨Hcomm, HrA, HrB⟩⟩, Ho, Hin, Hout⟩
  iexists K
  have ha := ats_eq (F := F) c 0 fun g => atPos ER g 0 ∅ 0
  ihave Hat := (Entails.of_eq ha) $$ Hat
  icases Hat with ⟨Ab, Ars, Arr, Axs, Axr, Aas, Aar⟩
  ihave HrA := (recvA_split c) $$ HrA
  ihave HrB := (recvB_split c) $$ HrB
  unfold atStart
  isplitl [HR Hlev Ho TA HrA]
  · unfold inA going
    isplitl [HR Hlev]
    · unfold recs recs0
      icases HR with ⟨HI, HC⟩
      isplitl [HI]; · iexact HI
      isplitl [HC]; · iexact HC
      iexact Hlev
    isplitl [Ho]; · iexact Ho
    rw [prog_zero]
    unfold sA
    iapply (zip2 (fun d : Fin 7 => dutyTok ER (cell (pA d c) .bar) 0 (.inl d)) _)
    isplitl [TA]; · iexact TA
    iexact HrA
  isplitl [TB HrB]
  · unfold sB
    iapply (zip2 (fun e : Fin 3 => dutyTok ER (cell (pB e c) .bar) 0 (.inr e)) _)
    isplitl [TB]; · iexact TB
    iexact HrB
  isplitl [Hin]; · iexact Hin
  isplitl [Hout]; · iexact Hout
  isplitl [Hcomm]; · iexact Hcomm
  isplitl [Cb Ab]
  · isplitl [Cb]; · iexact Cb
    iexact Ab
  isplitl [Ars Trs Trr Axs Txs Txr Aas Tas Tar]
  · isplitl [Ars Trs Trr]
    · unfold eR
      iapply (zip3 (fun d : Fin 7 => atPos ER (cell c (.rs d)) 0 ∅ 0) (fun d : Fin 7 => dutyTok ER (cell c (.rs d)) 0 (.inl 0)) (fun d : Fin 7 => dutyTok ER (cell (pA d c) (.rr d)) 0 (.inl 0)))
      isplitl [Ars]; · iexact Ars
      isplitl [Trs]; · iexact Trs
      iexact Trr
    isplitl [Axs Txs Txr]
    · unfold eX
      iapply (zip3 (fun d : Fin 3 => atPos ER (cell c (.xs d)) 0 ∅ 0) (fun d : Fin 3 => dutyTok ER (cell c (.xs d)) 0 (.inl 0)) (fun d : Fin 3 => dutyTok ER (cell (pB d c) (.xr d)) 0 (.inl 0)))
      isplitl [Axs]; · iexact Axs
      isplitl [Txs]; · iexact Txs
      iexact Txr
    · unfold eG
      iapply (zip3 (fun d : Fin 7 => atPos ER (cell c (.as d)) 0 ∅ 0) (fun d : Fin 7 => dutyTok ER (cell c (.as d)) 0 (.inl 0)) (fun d : Fin 7 => dutyTok ER (cell (pA d c) (.ar d)) 0 (.inl 0)))
      isplitl [Aas]; · iexact Aas
      isplitl [Tas]; · iexact Tas
      iexact Tar
  unfold wB
  isplitl [Cr Arr]
  · iapply (zip2 (fun d : Fin 7 => cred (tallyAt (cell c (.inr (kRR d))) () N)) (fun d : Fin 7 => atPos ER (cell c (.inr (kRR d))) 0 ∅ 0))
    isplitl [Cr]; · iexact Cr
    iexact Arr
  isplitl [Cx Axr]
  · iapply (zip2 (fun d : Fin 3 => cred (tallyAt (cell c (.inr (kXR d))) () N)) (fun d : Fin 3 => atPos ER (cell c (.inr (kXR d))) 0 ∅ 0))
    isplitl [Cx]; · iexact Cx
    iexact Axr
  · iapply (zip2 (fun d : Fin 7 => cred (tallyAt (cell c (.inr (kAR d))) () N)) (fun d : Fin 7 => atPos ER (cell c (.inr (kAR d))) 0 ∅ 0))
    isplitl [Cg]; · iexact Cg
    iexact Aar

/-- All cells of device `c` are closed at once. -/
theorem close_all (K : Dev nD × Slot → ℕ) (c : Dev nD) :
    iprop(recs (part m) K ∗ bigSep Finset.univ fun k : Slot => atPos ER (cell c k) 1 ∅ 0)
      ⊢ |={Set.univ}=> (bigSep Finset.univ fun k : Slot => semVal (cell c k) 0 : sProp 𝕄) := by
  classical
  exact (with_persistent (R := recs (part m) K) (Ψ := fun k : Slot => iprop(|={Set.univ}=> semVal (cell c k) 0)) fun k _ => close_cell (part m) K c k).trans (bigSep_fupd _ _)

theorem any_of (c : Dev nD) {sh : Shape} {e : EltTy} (M : Memref sig .tc .vmem sh e) (X : Vec F sh e) :
    has c M fullShare X ⊢ (iprop(∃ X, has (F := F) c M fullShare X) : sProp 𝕄) := by
  iintro H; iexists X; iexact H

/-- From what the body leaves to what the launch takes back. -/
theorem atEnd_elim (K : Dev nD × Slot → ℕ) (c : Dev nD) (xv : Vec F S512x512 .f32) (gv uv : Vec F S512x1024 .f32) (dv : Vec F S1024x512 .f32) :
    atEnd (part m) K c xv gv uv dv ⊢ |={Set.univ}=> iprop(Φ₁ (F := F) c ∗ owed (F := F) c 0
      ∗ (has c xM fullShare xv ∗ has c wgM fullShare gv ∗ has c wuM fullShare uv ∗ has c wdM fullShare dv)
      ∗ has c outM fullShare (k0_pay1 (fin (part m) c))) := by
  unfold atEnd over Φ₁ scratch
  iintro ⟨⟨HR, Ho⟩, Hin, Hout, Hcomm, ⟨HrA, HrB⟩, Ab, ⟨Ars, Arr⟩, ⟨Axs, Axr⟩, ⟨Aas, Aar⟩⟩
  have ha := ats_eq (F := F) c 0 fun g => atPos ER g 1 ∅ 0
  imod (close_all m K c) $$ [HR Ab Ars Arr Axs Axr Aas Aar] with Hz
  · isplitl [HR]; · iexact HR
    iapply (Entails.of_eq ha.symm)
    isplitl [Ab]; · iexact Ab
    isplitl [Ars]; · iexact Ars
    isplitl [Arr]; · iexact Arr
    isplitl [Axs]; · iexact Axs
    isplitl [Axr]; · iexact Axr
    isplitl [Aas]; · iexact Aas
    iexact Aar
  imodintro
  isplitl [Hcomm HrA HrB Hz]
  · isplitr [Hz]
    · isplitl [Hcomm]; · iexists _; iexact Hcomm
      isplitl [HrA]
      · iapply (recvA_join c)
        iapply (show (bigSep Finset.univ fun d : Fin 7 => has c (slA d) fullShare (pseg (part m) (pA d c) (qa c))) ⊢ (bigSep Finset.univ fun d : Fin 7 => iprop(∃ X, has (F := F) c (slA d) fullShare X)) from
          bigSep_mono fun d _ => any_of c (slA d) _)
        iexact HrA
      · iapply (recvB_join c)
        iapply (show (bigSep Finset.univ fun d : Fin 3 => has c (slB d) fullShare (asum (part m) (pB d c))) ⊢ (bigSep Finset.univ fun d : Fin 3 => iprop(∃ X, has (F := F) c (slB d) fullShare X)) from
          bigSep_mono fun d _ => any_of c (slB d) _)
        iexact HrB
    · iexact Hz
  isplitl [Ho]; · rw [ow_end]; iexact Ho
  isplitl [Hin]; · iexact Hin
  iexact Hout

theorem wpc_fupd {α : Type} (c : Dev nD) (p : Prog (TpuEff nD τ sig (Elt F) Λ₀ .tc) α) (Q : α → sProp 𝕄) :
    wpc c p (fun a => iprop(|={Set.univ}=> Q a)) ⊢ wpc c p Q := by
  unfold wpc; exact wp_fupd _ _ _ p Q

def bodyPre (c : Dev nD) : sProp 𝕄 :=
  iprop(Φ₀ m c ∗ (dats m ρ 0 c).owesAt () t0_0.castSucc
    ∗ (∃ d, has c xM fullShare ((dats m ρ 0 c).before (0 : Fin 5) t0_0 d)) ∗ (∃ d, has c wgM fullShare ((dats m ρ 0 c).before (1 : Fin 5) t0_0 d))
    ∗ (∃ d, has c wuM fullShare ((dats m ρ 0 c).before (2 : Fin 5) t0_0 d)) ∗ (∃ d, has c wdM fullShare ((dats m ρ 0 c).before (3 : Fin 5) t0_0 d))
    ∗ (∃ d, has c outM fullShare ((dats m ρ 0 c).before (4 : Fin 5) t0_0 d)))
def bodyPost (c : Dev nD) : sProp 𝕄 :=
  iprop(Φ₁ (F := F) c ∗ (dats m ρ 0 c).owesAt () t0_0.succ
    ∗ has c xM fullShare (xstg m c) ∗ has c wgM fullShare (gstg m c) ∗ has c wuM fullShare (ustg m c) ∗ has c wdM fullShare (dstg m c)
    ∗ has c outM fullShare (k0_pay1 (fin (part m) c)))

theorem owes_in (c : Dev nD) : (dats m ρ 0 c).owesAt () t0_0.castSucc ⊢ (owed c (O₀ c) : sProp 𝕄) := by
  unfold Dat.owesAt Pipeline.owesWithin owed
  iintro ⟨%W, %hW, HO⟩
  iexists W; iexact HO
theorem owes_out (c : Dev nD) : (owed c 0 : sProp 𝕄) ⊢ (dats m ρ 0 c).owesAt () t0_0.succ := by
  unfold Dat.owesAt Pipeline.owesWithin owed
  iintro ⟨%W, HO⟩
  iexists W
  isplitr
  · ipureintro; exact fun _ _ => Or.inl trivial
  iexact HO

theorem sound_body (c : Dev nD) : bodyPre m ρ c ⊢ wpc c (cc0_body (F := F) xM (Memref.isWhole_whole _) wgM (Memref.isWhole_whole _) wuM (Memref.isWhole_whole _)
      wdM (Memref.isWhole_whole _) outM (Memref.isWhole_whole _) commM (Memref.isWhole_whole _) rAM (Memref.isWhole_whole _) rBM (Memref.isWhole_whole _)
      cc0_scratch3 cc0_scratch4 cc0_scratch5 cc0_scratch6 cc0_scratch7 cc0_scratch8) (fun _ => bodyPost m ρ c) := by
  unfold bodyPre
  simp only [before_x, before_g, before_u, before_d]
  iintro ⟨HΦ, Ho, ⟨%_, Hx⟩, ⟨%_, Hg⟩, ⟨%_, Hu⟩, ⟨%_, Hd⟩, ⟨%_, Hout⟩⟩
  ihave Ho := (owes_in m ρ c) $$ Ho
  ihave HS := (atStart_intro m c (xstg m c) (gstg m c) (ustg m c) (dstg m c)) $$ [HΦ Ho Hx Hg Hu Hd Hout]
  · isplitl [HΦ]; · iexact HΦ
    isplitl [Ho]; · iexact Ho
    isplitl [Hx Hg Hu Hd]
    · isplitl [Hx]; · iexact Hx
      isplitl [Hg]; · iexact Hg
      isplitl [Hu]; · iexact Hu
      iexact Hd
    iexists _; iexact Hout
  icases HS with ⟨%K, HS⟩
  have hw := whole (part m) K c (Memref.isWhole_whole _) (Memref.isWhole_whole _) (Memref.isWhole_whole _) (Memref.isWhole_whole _)
    (Memref.isWhole_whole _) (Memref.isWhole_whole _) (Memref.isWhole_whole _) (Memref.isWhole_whole _) (xstg m c) (gstg m c) (ustg m c) (dstg m c) rfl
    (fun _ => iprop(|={Set.univ}=> bodyPost m ρ c))
  iapply (wpc_fupd c _ fun _ => bodyPost m ρ c)
  iapply hw $$ [HS]
  · iexact HS
  iintro HE
  imod (atEnd_elim m K c (xstg m c) (gstg m c) (ustg m c) (dstg m c)) $$ HE with ⟨HΦ, Ho, ⟨Hx, Hg, Hu, Hd⟩, Hout⟩
  imodintro
  unfold bodyPost
  isplitl [HΦ]; · iexact HΦ
  isplitl [Ho]; · iapply (owes_out m ρ c); iexact Ho
  isplitl [Hx]; · iexact Hx
  isplitl [Hg]; · iexact Hg
  isplitl [Hu]; · iexact Hu
  isplitl [Hd]; · iexact Hd
  iexact Hout

set_option maxRecDepth 60000 in
/-- The library's body obligation on device `c`. -/
theorem body_obligation (c : Dev nD) : BodyObligation (dats (F := F) m ρ 0 c) (defs₀ (F := F)) 𝒱₀ () Set.univ := fun t => by
  rw [fin_N0 t, bigSep_W0, bigSep_W0]
  have h := sound_body m ρ c
  unfold wpc bodyPre bodyPost at h
  exact h

/-! ## The launch -/

theorem share_eq (c : Dev nD) (w : Fin cfg0.W) : (dats m ρ 0 c).share w = fullShare := by unfold Dat.share; split <;> rfl

theorem has_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem whole_any (c : Dev nD) (b : Ref sig .tc) :
    (iprop(∃ f : Buf (Elt F) (((c : Dev nD) : Thread nD τ).loc b), (((c : Thread nD τ).loc b) ↦{fullShare} f)) : sProp 𝕄)
      ⊢ iprop(∃ X, owns (Ix := Unit) (Name := ℕ) (U := UU) (Lvl := ℕ) (c : Thread nD τ) (Memref.whole b) fullShare X) := by
  iintro ⟨%f, H⟩
  iexists f
  rw [has_whole]
  iexists f
  isplitr
  · ipureintro; rfl
  iexact H

theorem any_whole (c : Dev nD) (b : Ref sig .tc) :
    iprop(∃ X, owns (Ix := Unit) (Name := ℕ) (U := UU) (Lvl := ℕ) (c : Thread nD τ) (Memref.whole b) fullShare X)
      ⊢ (iprop(∃ f : Buf (Elt F) (((c : Dev nD) : Thread nD τ).loc b), (((c : Thread nD τ).loc b) ↦{fullShare} f)) : sProp 𝕄) := by
  iintro ⟨%X, H⟩
  ihave H := (Entails.of_eq (has_whole (F := F) c b X)) $$ H
  icases H with ⟨%f, -, H⟩
  iexists f
  iexact H

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (part m) c)
      ⊢ |={Set.univ}=> iprop(start m c ∗ emp) := by
  iintro ⟨-, Hlev, Hcr, -, HG⟩
  ihave Hc := (creds_intro (F := F) c) $$ Hcr
  imodintro
  unfold start
  isplitl
  · isplitl [HG]; · iexact HG
    isplitl [Hc]; · iexact Hc
    unfold levs; iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, H0, H1, H2⟩
  isplitl [Hs]; · iexact Hs
  isplitl [H0]; · iapply (whole_any c cc0_scratch0); iexact H0
  isplitl [H1]; · iapply (whole_any c cc0_scratch1); iexact H1
  iapply (whole_any c cc0_scratch2); iexact H2

theorem sems0_split (c : Dev nD) :
    (bigSep Finset.univ fun k : Slot => semVal (cell c k) 0 : sProp 𝕄)
      ⊢ iprop(unscopedSems0 c ∗ Pipeline.ownSems0 (Ix := Unit) (Name := ℕ) (U := UU) (Lvl := ℕ) (Val := Elt F) (τ := τ) osem c) := by
  have h : (bigSep Finset.univ fun k : Slot => semVal (cell c k) 0 : sProp 𝕄)
      = iprop(semVal (cell c .bar) 0 ∗ Pipeline.ownSems0 (Ix := Unit) (Name := ℕ) (U := UU) (Lvl := ℕ) (Val := Elt F) (τ := τ) osem c) := by
    rw [bigSep_univ_sum, Finset.univ_unique, bigSep_singleton]; rfl
  rw [unscopedSems0_eq, h]

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  iintro ⟨⟨H0, H1, H2⟩, Hz⟩
  ihave Hz := (sems0_split (F := F) c) $$ Hz
  icases Hz with ⟨Hu, Ho⟩
  isplitl [Hu]; · iexact Hu
  isplitl [Ho]; · iexact Ho
  isplitl [H0]; · iapply (any_whole c cc0_scratch0); iexact H0
  isplitl [H1]; · iapply (any_whole c cc0_scratch1); iexact H1
  iapply (any_whole c cc0_scratch2); iexact H2

/-- A semaphore that is not a cell's lies at the lowest level. -/
theorem lv_other (c : Dev nD) (sm : SemLoc sig) (h : ∀ k, csem k ≠ sm) : lv ((c : Thread nD τ), sm) () ≤ 0 := by
  unfold lv slotOf
  rw [dif_neg (show ¬ ∃ k, csem k = sm from fun ⟨k, hk⟩ => h k hk)]

theorem waits (c : Dev nD) : (levAts L lv : sProp 𝕄) ⊢ Pipeline.cellsWaits cfgs (dats m ρ) () 0 c :=
  Pipeline.cellsWaits_intro cfgs (dats m ρ) () 0 c fun w s t =>
    mayWait_sem c _ 0 (lv_other c _ (by fin_cases w <;> fin_cases s <;> decide +kernel)) _ (by
      rcases t with ⟨_ | _, ht⟩
      · exact above_0 c 0 0 0 0 0
      · exact Above.zero 0)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On 32 devices, over any float values, from any memory with zero counters: every fair run of the program ends, with each
    operand array as it was, each result array at `finalA`, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (part m)) (G' := G' (part m)) (u₀ := u₀)
    (hu₀ := by
      unfold u₀
      iintro Hu
      ihave H := (ownU_pair _ _) $$ Hu
      icases H with ⟨HP, HX⟩
      imod (fund_all (part m)) $$ HX with HG
      imodintro
      isplitl [HP] <;> iassumption)
    (hglob := glob (part m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.GatedMlp

end
-- ==== Proof.Frames.lean ====
/-
# `Frames`: the kernel's two frames, and the array it leaves

The one run, over any float values, is the frame of the kernel as printed and of the kernel read over the extended reals.
-/
module

public import proofs.«01_k».proof.Defs
public import proofs.«01_k».proof.Proof.Launch
public import proofs.«01_k».proof.Proof.Gen.Kernel

@[expose] public section

noncomputable section

namespace Cert.GatedMlp

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays after the run -/

theorem finalA_x (c : Dev nD) : finalA m ρ c (0 : Fin 5) = m ((c : Thread nD τ).loc main_arg0) := (dats (F := F) m ρ 0 c).arrAt_in (0 : Fin 5) rfl _
theorem finalA_g (c : Dev nD) : finalA m ρ c (1 : Fin 5) = m ((c : Thread nD τ).loc main_arg1) := (dats (F := F) m ρ 0 c).arrAt_in (1 : Fin 5) rfl _
theorem finalA_u (c : Dev nD) : finalA m ρ c (2 : Fin 5) = m ((c : Thread nD τ).loc main_arg2) := (dats (F := F) m ρ 0 c).arrAt_in (2 : Fin 5) rfl _
theorem finalA_d (c : Dev nD) : finalA m ρ c (3 : Fin 5) = m ((c : Thread nD τ).loc main_arg3) := (dats (F := F) m ρ 0 c).arrAt_in (3 : Fin 5) rfl _

/-- The run, at the arrays' names. -/
theorem run_args : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_v1) = finalA m ρ c (4 : Fin 5))
    ∧ r.2.sem = fun _ => 0) :=
  (θ_run defs _ _).mono (fun r h => ⟨fun c => ⟨(h.1 c (0 : Fin 5)).trans (finalA_x m ρ c), (h.1 c (1 : Fin 5)).trans (finalA_g m ρ c),
    (h.1 c (2 : Fin 5)).trans (finalA_u m ρ c), (h.1 c (3 : Fin 5)).trans (finalA_d m ρ c), h.1 c (4 : Fin 5)⟩, h.2⟩) (run_main m ρ)

/-- Every run ends, the arguments unchanged and every counter back at zero. -/
theorem frame_any : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨(h.1 c).1, (h.1 c).2.1, (h.1 c).2.2.1, (h.1 c).2.2.2.1⟩, h.2⟩) (run_args m ρ)

/-- The kernel over the extended reals does. -/
theorem quiescent_ideal : Cert.quiescent_KernelIdeal (hKernelIdeal := Cert.KernelIdeal.Gen.facts) := fun m g _ => frame_any (F := Ideal) m g

/-- The two printed programs have the same body table, label by label. -/
theorem table_eq : Cert.Kernel.defs₀ (F := F) = defs₀ (F := F) := by
  unfold Cert.Kernel.defs₀ defs₀
  refine congrArg _ (funext fun ℓ => funext fun a => ?_)
  fin_cases ℓ
  rcases a with ⟨⟨⟩⟩
  rfl

/-- The kernel as printed does: it is the same program, read over the floats. -/
theorem quiescent_printed : Cert.quiescent_Kernel (hKernel := Cert.Kernel.Gen.facts) := fun m g _ => by
  have h := frame_any (F := Bits) m g
  unfold defs at h
  rw [← table_eq] at h
  exact h

end Cert.GatedMlp

end
-- ==== Proof.Math.lean ====
/-
# `Math`: the kernel's result over the extended reals

Every device's result is the sum over the 32 devices of their partial results, and a device's partial is its 1024 hidden
columns' share of the product with the down projection.
-/
module

public import proofs.«01_k».proof.Proof.Cells
public import Idealize.ShloMosaic.Lib.Pointwise

@[expose] public section

noncomputable section

namespace Cert.GatedMlp

open Cert.KernelIdeal Cert.KernelIdeal.Gen
open Idealize.ShloMosaic Idealize.ShloMosaic.TcCoe

/-! ## All devices, from any one -/

/-- The members of a device's A-group, itself first. -/
def grpA (d : Fin 8) (c : Dev nD) : Dev nD := Fin.cases c (fun d => pA d c) d
/-- The members of a device's B-group, itself first. -/
def grpB (e : Fin 4) (c : Dev nD) : Dev nD := Fin.cases c (fun e => pB e c) e

/-- The A-groups of the members of a B-group are all devices, each once. -/
theorem groups_bijective (c : Dev nD) : Function.Bijective fun x : Fin 4 × Fin 8 => grpA x.2 (grpB x.1 c) := by
  rw [Fintype.bijective_iff_injective_and_card]
  exact ⟨by revert c; decide +kernel, by decide⟩

theorem sum_groups {M : Type} [AddCommMonoid M] (f : Dev nD → M) (c : Dev nD) : ∑ e : Fin 4, ∑ d : Fin 8, f (grpA d (grpB e c)) = ∑ c', f c' := by
  rw [← Fintype.sum_prod_type' (f := fun e d => f (grpA d (grpB e c)))]
  exact Equiv.sum_comp (Equiv.ofBijective _ (groups_bijective c)) f

theorem qa_own (c : Dev nD) (s : Fin 8) : qa (own c s) = s := by revert c s; decide +kernel

/-! ## The two sums -/

theorem cast_lift {F : FTy → Type} (X : Vec F S64x512 .bf16) (h : S1x64x512.ShapeCasts S64x512) : shapeCast S64x512 (lift X) h = X := by
  funext i; unfold shapeCast lift
  rw [show (Shape.reshapeEquiv squeezes_S1x64x512_S64x512.numel_eq.symm (Shape.reshapeEquiv h i)) = i from Equiv.symm_apply_apply (Shape.reshapeEquiv h) i]

theorem cast_same {α : Type} {s : Shape} (x : s.Idx → α) (h : s.ShapeCasts s) : shapeCast s x h = x := by
  pointwise

variable (P : Dev nD → Vec Ideal S512x512 .bf16)

/-- The first phase's sum at an index. -/
theorem pay5_apply (X0 X1 X2 X3 X4 X5 X6 X7 : Vec Ideal S64x512 .bf16) (j : S64x512.Idx) :
    (k0_pay5 (k0_pay4 X0 (lift X1) (lift X2)) (lift X3) (lift X4) (lift X5) (lift X6) (lift X7) j : EReal)
      = X0 j + X1 j + X2 j + X3 j + X4 j + X5 j + X6 j + X7 j := by
  have e (X : Vec Ideal S64x512 .bf16) := congrFun (cast_lift X shapeCasts_S1x64x512_S64x512) j
  unfold k0_pay5 k0_pay4
  dsimp only
  rw [cast_same]
  show (X0 j : EReal) + shapeCast S64x512 (lift X1) shapeCasts_S1x64x512_S64x512 j + shapeCast S64x512 (lift X2) shapeCasts_S1x64x512_S64x512 j
    + shapeCast S64x512 (lift X3) shapeCasts_S1x64x512_S64x512 j + shapeCast S64x512 (lift X4) shapeCasts_S1x64x512_S64x512 j
    + shapeCast S64x512 (lift X5) shapeCasts_S1x64x512_S64x512 j + shapeCast S64x512 (lift X6) shapeCasts_S1x64x512_S64x512 j
    + shapeCast S64x512 (lift X7) shapeCasts_S1x64x512_S64x512 j = _
  rw [e X1, e X2, e X3, e X4, e X5, e X6, e X7]

/-- The second phase's. -/
theorem pay6_apply (X0 X1 X2 X3 : Vec Ideal S64x512 .bf16) (j : S64x512.Idx) :
    (k0_pay6 X0 (lift X1) (lift X2) (lift X3) j : EReal) = X0 j + X1 j + X2 j + X3 j := by
  have e (X : Vec Ideal S64x512 .bf16) := congrFun (cast_lift X shapeCasts_S1x64x512_S64x512) j
  unfold k0_pay6
  rw [cast_same]
  show (X0 j : EReal) + shapeCast S64x512 (lift X1) shapeCasts_S1x64x512_S64x512 j + shapeCast S64x512 (lift X2) shapeCasts_S1x64x512_S64x512 j
    + shapeCast S64x512 (lift X3) shapeCasts_S1x64x512_S64x512 j = _
  rw [e X1, e X2, e X3]

theorem asum_apply (c : Dev nD) (j : S64x512.Idx) : (asum P c j : EReal) = ∑ d : Fin 8, (P (grpA d c) ((segR (qa c)).emb j) : EReal) := by
  unfold asum
  rw [pay5_apply, Fin.sum_univ_eight]
  rfl

theorem bsum_apply (c : Dev nD) (j : S64x512.Idx) : (bsum P c j : EReal) = ∑ e : Fin 4, (asum P (grpB e c) j : EReal) := by
  unfold bsum
  rw [pay6_apply, Fin.sum_univ_four]
  rfl

/-- Device `c`'s buffer at the end holds the sum over all devices. -/
theorem fin_apply (c : Dev nD) (i : S512x512.Idx) : (fin P c i : EReal) = ∑ c', (P c' i : EReal) := by
  have hq (e : Fin 4) (s : Fin 8) : qa (grpB e (own c s)) = s := by
    refine Fin.cases ?_ (fun e => ?_) e
    · exact qa_own c s
    · exact (qa_pB e _).trans (qa_own c s)
  have hi : (segR (segOf i)).emb (inSeg i) = i := by
    funext a
    refine Fin.ext ?_
    match a with
    | ⟨0, _⟩ => show 64 * ((i 0).val / 64) + 1 * ((i 0).val % 64) = (i 0).val; omega
    | ⟨1, _⟩ => show 0 + 1 * (i 1).val = (i 1).val; omega
  unfold fin
  rw [bsum_apply, ← sum_groups (fun c' => (P c' i : EReal)) (own c (segOf i))]
  refine Finset.sum_congr rfl fun e _ => ?_
  rw [asum_apply]
  refine Finset.sum_congr rfl fun d _ => ?_
  rw [hq, hi]

/-! ## One device's partial -/

/-- The hidden activation from its gate and its up value. -/
def act (g u : EReal) : EReal := g * (u * Ideal.logistic u)

theorem partial_apply (x : Vec Ideal S512x512 .f32) (g u : Vec Ideal S512x1024 .f32) (d : Vec Ideal S1024x512 .f32) (r l : Fin 512) :
    (k0_pay3 (k0_pay2 x g u d) (ix2 r l) : EReal)
      = ∑ j : Fin 1024, act (∑ k : Fin 512, x (ix2 r k) * g (ix2 k j)) (∑ k : Fin 512, x (ix2 r k) * u (ix2 k j)) * d (ix2 j l) := by
  pointwise [k0_pay3, k0_pay2, act]

end Cert.GatedMlp

end
-- ==== Proof.Value.lean ====
/-
# `Value`: what each device's result array holds when the run is over

Each of the five windows is its whole array, so the result array holds the sum of the devices' partials, and the partials
are those of the operands in memory.
-/
module

public import proofs.«01_k».proof.Proof.Frames
public import proofs.«01_k».proof.Proof.Math

@[expose] public section

noncomputable section

namespace Cert.GatedMlp

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## Each window's one block starts at the array's corner -/

theorem corner_x : ∀ a, (win0_0.rect t0_0).off a = 0 := by decide +kernel
theorem corner_g : ∀ a, (win0_1.rect t0_0).off a = 0 := by decide +kernel
theorem corner_u : ∀ a, (win0_2.rect t0_0).off a = 0 := by decide +kernel
theorem corner_d : ∀ a, (win0_3.rect t0_0).off a = 0 := by decide +kernel
theorem corner_out : ∀ a, (win0_4.rect t0_0).off a = 0 := by decide +kernel

theorem xstg_eq (c : Dev nD) : xstg m c = m ((c : Thread nD τ).loc main_arg0) := by
  funext i
  refine congrArg (m ((c : Thread nD τ).loc main_arg0)) (funext fun a => Fin.ext ?_)
  show (win0_0.rect t0_0).off a + 1 * (i a).val = (i a).val
  rw [corner_x]; omega
theorem gstg_eq (c : Dev nD) : gstg m c = m ((c : Thread nD τ).loc main_arg1) := by
  funext i
  refine congrArg (m ((c : Thread nD τ).loc main_arg1)) (funext fun a => Fin.ext ?_)
  show (win0_1.rect t0_0).off a + 1 * (i a).val = (i a).val
  rw [corner_g]; omega
theorem ustg_eq (c : Dev nD) : ustg m c = m ((c : Thread nD τ).loc main_arg2) := by
  funext i
  refine congrArg (m ((c : Thread nD τ).loc main_arg2)) (funext fun a => Fin.ext ?_)
  show (win0_2.rect t0_0).off a + 1 * (i a).val = (i a).val
  rw [corner_u]; omega
theorem dstg_eq (c : Dev nD) : dstg m c = m ((c : Thread nD τ).loc main_arg3) := by
  funext i
  refine congrArg (m ((c : Thread nD τ).loc main_arg3)) (funext fun a => Fin.ext ?_)
  show (win0_3.rect t0_0).off a + 1 * (i a).val = (i a).val
  rw [corner_d]; omega

/-! ## The result array -/

/-- Where the result window's block lands: at the same index. -/
theorem out_emb (i : S512x512.Idx) : ((cfg0.win 4).blk t0_0).view.emb i = i := by
  refine funext fun a => Fin.ext ?_
  show (win0_4.rect t0_0).off a + 1 * (i a).val = (i a).val
  rw [corner_out]; omega

theorem out_flushed (c : Dev nD) (t : Fin cfg0.N) :
    (dats m ρ 0 c).flushed 4 t = ((cfg0.win 4).blk t).view.read (Elt F) (k0_pay1 (fin (part m) c)) := by
  obtain rfl := fin_N0 t
  funext i
  exact (congrArg (k0_pay1 (fin (part m) c)) (out_emb i)).symm

theorem out_cover (i : S512x512.Idx) : ∃ t : Fin cfg0.N, (cfg0.win 4).flush t = true ∧ i ∈ ((cfg0.win 4).blk t).view.set :=
  ⟨t0_0, flush0_4 _, by rw [← out_emb i]; exact View.emb_mem_set _ _⟩

theorem finalA_out (c : Dev nD) : finalA m ρ c (4 : Fin 5) = k0_pay1 (fin (part m) c) :=
  (dats m ρ 0 c).arrAt_eq_of_cover 4 (k0_pay1 (fin (part m) c)) (fun t _ => out_flushed m ρ c t) out_cover

end Cert.GatedMlp

end
-- ==== Proof.Ref.lean ====
/-
# `Ref`: the reference's result over the extended reals, cut along the hidden axis

The reference contracts all 32768 hidden columns at once. That sum is the sum over the 32 devices of the sums over their
1024 columns, and each device's sum is the kernel's partial result.
-/
module

public import proofs.«01_k».proof.Proof.Gen.ReferenceIdeal.Run
public import proofs.«01_k».proof.Proof.Math
public import Idealize.ShloMosaic.Lib.Layout

@[expose] public section

noncomputable section

namespace Cert.GatedMlp

open Cert.ReferenceIdeal Cert.ReferenceIdeal.Gen
open Idealize.ShloMosaic Idealize.ShloMosaic.TcCoe

/-- The reference's composed term of its four arguments. -/
def refOut (x : FVec Ideal S512x512 .f32) (g u : FVec Ideal S512x32768 .f32) (d : FVec Ideal S32768x512 .f32) : FVec Ideal S512x512 .f32 :=
  Host.dotGeneral dot_S512x32768_S32768x512_S512x512_1_0_0_1_n_n none (mulf (Host.dotGeneral dot_S512x512_S512x32768_S512x32768_1_0_0_1_n_n none x g) (Host.divf (Host.dotGeneral dot_S512x512_S512x32768_S512x32768_1_0_0_1_n_n none x u) (addf (broadcastInDim S512x32768 ![] bcast_S_S512x32768 (constant S_ .f32 0x3F800000#32)) (Host.exp (Host.negf (Host.dotGeneral dot_S512x512_S512x32768_S512x32768_1_0_0_1_n_n none x u)))))) d

theorem one_add_exp_ne_zero (y : EReal) : 1 + Ideal.exp y ≠ 0 := by
  have h : 0 ≤ Ideal.exp y := by
    induction y with
    | bot => exact le_refl _
    | top => exact le_top
    | coe r => exact EReal.coe_nonneg.mpr (Real.exp_pos r).le
  exact (lt_of_lt_of_le zero_lt_one (le_add_of_nonneg_right h)).ne'

/-- The quotient the reference takes is the product with the logistic function the kernel takes. -/
theorem silu_eq (u : EReal) : Ideal.div u (1 + Ideal.exp (-u)) = u * Ideal.logistic u := by
  unfold Ideal.logistic Ideal.div
  rw [if_neg (one_add_exp_ne_zero _), if_neg (one_add_exp_ne_zero _), one_mul]

theorem refOut_apply (x : FVec Ideal S512x512 .f32) (g u : FVec Ideal S512x32768 .f32) (d : FVec Ideal S32768x512 .f32) (r l : Fin 512) :
    (refOut x g u d (ix2 r l) : EReal)
      = ∑ j : Fin 32768, act (∑ k : Fin 512, x (ix2 r k) * g (ix2 k j)) (∑ k : Fin 512, x (ix2 r k) * u (ix2 k j)) * d (ix2 j l) := by
  unfold act
  simp only [← silu_eq]
  pointwise [refOut]

end Cert.GatedMlp

end
-- ==== Proof.Algebraic.lean ====
/-
# `Algebraic`: every device's result is the reference's

The operands of device `c` are its 1024 hidden columns' blocks of the reference's arrays, so its partial is its share of
the reference's contraction, and the sum of the partials is the whole of it.
-/
module

public import proofs.«01_k».proof.Proof.Value
public import proofs.«01_k».proof.Proof.Ref

@[expose] public section

noncomputable section

namespace Cert.GatedMlp

open Idealize.ShloMosaic Idealize.ShloMosaic.TcCoe
open Idealize.SL.Sem

/-- The whole hidden axis's columns, from a device and one of its own. -/
def col (c : Fin 32) (j : Fin 1024) : Fin 32768 := ⟨c.val * 1024 + j.val, by omega⟩

/-- A device's block of an up or gate projection: its own columns. -/
theorem block_cols (v : FVec Ideal ⟨2, ![512, 32768]⟩ .f32) (c : Fin 32) (k : Fin 512) (j : Fin 1024) :
    Layout.block ⟨2, ![512, 1024]⟩ ⟨2, ![512, 32768]⟩ 1 32 c v (by decide) (ix2 k j) = v (ix2 k (col c j)) :=
  congrArg v (by idx_ext)

/-- A device's block of the down projection: its own rows. -/
theorem block_rows (v : FVec Ideal ⟨2, ![32768, 512]⟩ .f32) (c : Fin 32) (j : Fin 1024) (l : Fin 512) :
    Layout.block ⟨2, ![1024, 512]⟩ ⟨2, ![32768, 512]⟩ 0 32 c v (by decide) (ix2 j l) = v (ix2 (col c j) l) :=
  congrArg v (by idx_ext)

/-- The partials of the blocks add up to the reference's result. -/
theorem sum_partials (x : FVec Ideal ⟨2, ![512, 512]⟩ .f32) (g u : FVec Ideal ⟨2, ![512, 32768]⟩ .f32) (d : FVec Ideal ⟨2, ![32768, 512]⟩ .f32)
    (i : (⟨2, ![512, 512]⟩ : Shape).Idx) :
    (∑ c : Fin 32, (KernelIdeal.Gen.k0_pay3 (KernelIdeal.Gen.k0_pay2 (F := Ideal) x (Layout.block ⟨2, ![512, 1024]⟩ ⟨2, ![512, 32768]⟩ 1 32 c g (by decide))
      (Layout.block ⟨2, ![512, 1024]⟩ ⟨2, ![512, 32768]⟩ 1 32 c u (by decide)) (Layout.block ⟨2, ![1024, 512]⟩ ⟨2, ![32768, 512]⟩ 0 32 c d (by decide))) i : EReal))
      = refOut x g u d i := by
  obtain ⟨r, l, rfl⟩ : ∃ r l : Fin 512, i = ix2 r l := ⟨i 0, i 1, eq_ix2 i⟩
  rw [refOut_apply, Fin.sum_univ_tiles 32 1024 rfl]
  refine Finset.sum_congr rfl fun c _ => ?_
  rw [partial_apply]
  refine Finset.sum_congr rfl fun j _ => ?_
  simp only [block_cols, block_rows]
  rfl

/-- Memories agree: each device holds its part of the reference's arrays. -/
theorem out_eq (m : (ℓ : Loc KernelIdeal.nD KernelIdeal.τ KernelIdeal.sig) → Buf (Elt Ideal) ℓ)
    (x : FVec Ideal ⟨2, ![512, 512]⟩ .f32) (g u : FVec Ideal ⟨2, ![512, 32768]⟩ .f32) (d : FVec Ideal ⟨2, ![32768, 512]⟩ .f32)
    (hx : ∀ c : Dev KernelIdeal.nD, m ((c.tc : Thread KernelIdeal.nD KernelIdeal.τ).loc KernelIdeal.main_arg0) = x)
    (hg : ∀ c : Dev KernelIdeal.nD, m ((c.tc : Thread KernelIdeal.nD KernelIdeal.τ).loc KernelIdeal.main_arg1) = Layout.block ⟨2, ![512, 1024]⟩ ⟨2, ![512, 32768]⟩ 1 32 c g (by decide))
    (hu : ∀ c : Dev KernelIdeal.nD, m ((c.tc : Thread KernelIdeal.nD KernelIdeal.τ).loc KernelIdeal.main_arg2) = Layout.block ⟨2, ![512, 1024]⟩ ⟨2, ![512, 32768]⟩ 1 32 c u (by decide))
    (hd : ∀ c : Dev KernelIdeal.nD, m ((c.tc : Thread KernelIdeal.nD KernelIdeal.τ).loc KernelIdeal.main_arg3) = Layout.block ⟨2, ![1024, 512]⟩ ⟨2, ![32768, 512]⟩ 0 32 c d (by decide))
    (c : Dev KernelIdeal.nD) : KernelIdeal.Gen.k0_pay1 (fin (part m) c) = refOut x g u d := by
  funext i
  refine (fin_apply (part m) c i).trans ((Finset.sum_congr rfl fun c' _ => ?_).trans (sum_partials x g u d i))
  unfold part
  rw [xstg_eq, gstg_eq, ustg_eq, dstg_eq, hx, hg, hu, hd]

theorem algebraic : Cert.algebraic_KernelIdeal_ReferenceIdeal (hKernelIdeal := Cert.KernelIdeal.Gen.facts) (hReferenceIdeal := Cert.ReferenceIdeal.Gen.facts) := by
  intro m ρ m' ρ' _ hagree
  refine ⟨_, (θ_run KernelIdeal.defs _ _).mono (fun r h c => ?_) (run_args (F := Ideal) m ρ),
    (θ_run ReferenceIdeal.defs _ _).mono (fun r h => h 0) (Cert.ReferenceIdeal.Value.run (F := Ideal) m' ρ')⟩
  obtain ⟨h0, h1, h2, h3, hv⟩ := h.1 c
  refine ⟨?_, h0, h1, h2, h3⟩
  refine (hv.trans (finalA_out m ρ c)).trans ?_
  exact out_eq m _ _ _ _ (fun c => (hagree c).1) (fun c => (hagree c).2.1) (fun c => (hagree c).2.2.1) (fun c => (hagree c).2.2.2) c

/-- The reference's frame: its run, and it declares no counter. -/
theorem quiescent_ref : Cert.quiescent_ReferenceIdeal (hReferenceIdeal := Cert.ReferenceIdeal.Gen.facts) := fun m ρ _ =>
  (θ_run ReferenceIdeal.defs _ _).mono (fun r h => ⟨fun c => (h c).2, sem_eq_zero_of_no_sems (by decide) r.2⟩)
    (Cert.ReferenceIdeal.Value.run (F := Ideal) m ρ)

end Cert.GatedMlp

end
-- ==== Proof.lean ====
/-
# The proof of `Cert.Claim`

The three frames are the kernel's one run (`Frames`) and the reference's run (`Algebraic`). No operation was replaced, so
`preserves` states nothing further. `algebraic` says that every device's result is the reference's (`Algebraic`).
-/
module

public import proofs.«01_k».proof.Defs
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.GatedMlp.quiescent_printed, Cert.GatedMlp.quiescent_ideal, Cert.GatedMlp.quiescent_ref, trivial, Cert.GatedMlp.algebraic⟩

end Cert.Proof

end
